-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_small_KernelIdeal [hPre_small_KernelIdeal : Cert.Pre_small_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_small_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_small_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.1 = (fun _ => 1#1)
    ∧ (Cert.Pre_small_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2.1 = (fun _ => 1#1)
    ∧ (Cert.Pre_small_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_small_ReferenceIdeal [hPre_small_ReferenceIdeal : Cert.Pre_small_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_small_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_small_KernelIdeal [hKernelIdeal : Cert.KernelIdeal.Facts] [hPre_small_KernelIdeal : Cert.Pre_small_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_small_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_small_ReferenceIdeal [hReferenceIdeal : Cert.ReferenceIdeal.Facts] [hPre_small_ReferenceIdeal : Cert.Pre_small_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_small_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_small_KernelIdeal [hKernelIdeal : Cert.KernelIdeal.Facts] [hReferenceIdeal : Cert.ReferenceIdeal.Facts] [hPre_small_KernelIdeal : Cert.Pre_small_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_small_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![4096, 4096]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 2048]⟩ ⟨2, ![4096, 2048]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v6) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_small_KernelIdeal : Cert.Pre_small_KernelIdeal.Facts) (hPre_small_ReferenceIdeal : Cert.Pre_small_ReferenceIdeal.Facts),
    quiescent_Kernel (hKernel := hKernel)
    ∧ quiescent_KernelIdeal (hKernelIdeal := hKernelIdeal)
    ∧ quiescent_KernelIdeal_pre_small_KernelIdeal (hKernelIdeal := hKernelIdeal) (hPre_small_KernelIdeal := hPre_small_KernelIdeal)
    ∧ quiescent_ReferenceIdeal (hReferenceIdeal := hReferenceIdeal)
    ∧ quiescent_ReferenceIdeal_pre_small_ReferenceIdeal (hReferenceIdeal := hReferenceIdeal) (hPre_small_ReferenceIdeal := hPre_small_ReferenceIdeal)
    ∧ preserves_Kernel_KernelIdeal
    ∧ algebraic_KernelIdeal_ReferenceIdeal_pre_small_KernelIdeal (hKernelIdeal := hKernelIdeal) (hReferenceIdeal := hReferenceIdeal) (hPre_small_KernelIdeal := hPre_small_KernelIdeal)
-- ==== Pre_small_KernelIdeal.lean ====
abbrev S4096x1024 : Shape := ⟨2, ![4096, 1024]⟩
abbrev S4096x2048 : Shape := ⟨2, ![4096, 2048]⟩
abbrev S1024x2048 : Shape := ⟨2, ![1024, 2048]⟩
abbrev S_ : Shape := ⟨0, ![]⟩

class Facts : Prop where
  slices_S4096x2048_S1024x2048_0_0 : S4096x2048.Slices ![0, 0] S1024x2048
  bcast_S_S4096x2048 : S_.BroadcastsInDim S4096x2048 (![] : Fin 0 → Fin S4096x2048.rank)
  slices_S4096x2048_S1024x2048_1024_0 : S4096x2048.Slices ![1024, 0] S1024x2048
  slices_S4096x2048_S1024x2048_2048_0 : S4096x2048.Slices ![2048, 0] S1024x2048
  slices_S4096x2048_S1024x2048_3072_0 : S4096x2048.Slices ![3072, 0] S1024x2048
  dot_S4096x1024_S1024x2048_S4096x2048_1_0_0_1_n_n_wf : DotDims.WF S4096x1024 S1024x2048 S4096x2048 [1] [0] [0] [1] [] []

variable [Facts]

def dot_S4096x1024_S1024x2048_S4096x2048_1_0_0_1_n_n : DotDims S4096x1024 S1024x2048 S4096x2048 where
  lhsContracting := [1]
  rhsContracting := [0]
  lhsNonContracting := [0]
  rhsNonContracting := [1]
  lhsBatch := []
  rhsBatch := []
  wf := dot_S4096x1024_S1024x2048_S4096x2048_1_0_0_1_n_n_wf
def fn {F : FTy → Type} [FloatOps F] (main_arg0 : FVec F S4096x1024 .f32) (main_arg1 : FVec F S4096x2048 .f32) : IVec S4096x2048 1 × IVec S4096x2048 1 × IVec S4096x2048 1 × IVec S4096x2048 1 :=
  let main_v0 : FVec F S1024x2048 .f32 := (extractStridedSlice S1024x2048 ![0, 0] · slices_S4096x2048_S1024x2048_0_0) main_arg1
  let main_v1 : FVec F S4096x2048 .f32 := (fun l r => Host.dotGeneral dot_S4096x1024_S1024x2048_S4096x2048_1_0_0_1_n_n none l r) main_arg0 main_v0
  let main_v2 : FVec F S4096x2048 .f32 := Host.absf main_v1
  let main_cst : FVec F S_ .f32 := constant S_ .f32 0x41700000#32
  let main_v3 : FVec F S4096x2048 .f32 := broadcastInDim S4096x2048 ![] bcast_S_S4096x2048 main_cst
  let main_v4 : IVec S4096x2048 1 := cmpf .ole main_v2 main_v3
  let main_v5 : FVec F S1024x2048 .f32 := (extractStridedSlice S1024x2048 ![1024, 0] · slices_S4096x2048_S1024x2048_1024_0) main_arg1
  let main_v6 : FVec F S4096x2048 .f32 := (fun l r => Host.dotGeneral dot_S4096x1024_S1024x2048_S4096x2048_1_0_0_1_n_n none l r) main_arg0 main_v5
  let main_v7 : FVec F S4096x2048 .f32 := Host.absf main_v6
  let main_cst_0 : FVec F S_ .f32 := constant S_ .f32 0x41700000#32
  let main_v8 : FVec F S4096x2048 .f32 := broadcastInDim S4096x2048 ![] bcast_S_S4096x2048 main_cst_0
  let main_v9 : IVec S4096x2048 1 := cmpf .ole main_v7 main_v8
  let main_v10 : FVec F S1024x2048 .f32 := (extractStridedSlice S1024x2048 ![2048, 0] · slices_S4096x2048_S1024x2048_2048_0) main_arg1
  let main_v11 : FVec F S4096x2048 .f32 := (fun l r => Host.dotGeneral dot_S4096x1024_S1024x2048_S4096x2048_1_0_0_1_n_n none l r) main_arg0 main_v10
  let main_v12 : FVec F S4096x2048 .f32 := Host.absf main_v11
  let main_cst_1 : FVec F S_ .f32 := constant S_ .f32 0x41700000#32
  let main_v13 : FVec F S4096x2048 .f32 := broadcastInDim S4096x2048 ![] bcast_S_S4096x2048 main_cst_1
  let main_v14 : IVec S4096x2048 1 := cmpf .ole main_v12 main_v13
  let main_v15 : FVec F S1024x2048 .f32 := (extractStridedSlice S1024x2048 ![3072, 0] · slices_S4096x2048_S1024x2048_3072_0) main_arg1
  let main_v16 : FVec F S4096x2048 .f32 := (fun l r => Host.dotGeneral dot_S4096x1024_S1024x2048_S4096x2048_1_0_0_1_n_n none l r) main_arg0 main_v15
  let main_v17 : FVec F S4096x2048 .f32 := Host.absf main_v16
  let main_cst_2 : FVec F S_ .f32 := constant S_ .f32 0x41700000#32
  let main_v18 : FVec F S4096x2048 .f32 := broadcastInDim S4096x2048 ![] bcast_S_S4096x2048 main_cst_2
  let main_v19 : IVec S4096x2048 1 := cmpf .ole main_v17 main_v18
  (main_v4, main_v9, main_v14, main_v19)
-- ==== Pre_small_ReferenceIdeal.lean ====
abbrev S4096x4096 : Shape := ⟨2, ![4096, 4096]⟩
abbrev S4096x2048 : Shape := ⟨2, ![4096, 2048]⟩
abbrev S_ : Shape := ⟨0, ![]⟩

class Facts : Prop where
  bcast_S_S4096x2048 : S_.BroadcastsInDim S4096x2048 (![] : Fin 0 → Fin S4096x2048.rank)
  dot_S4096x4096_S4096x2048_S4096x2048_1_0_0_1_n_n_wf : DotDims.WF S4096x4096 S4096x2048 S4096x2048 [1] [0] [0] [1] [] []

variable [Facts]

def dot_S4096x4096_S4096x2048_S4096x2048_1_0_0_1_n_n : DotDims S4096x4096 S4096x2048 S4096x2048 where
  lhsContracting := [1]
  rhsContracting := [0]
  lhsNonContracting := [0]
  rhsNonContracting := [1]
  lhsBatch := []
  rhsBatch := []
  wf := dot_S4096x4096_S4096x2048_S4096x2048_1_0_0_1_n_n_wf
def fn {F : FTy → Type} [FloatOps F] (main_arg0 : FVec F S4096x4096 .f32) (main_arg1 : FVec F S4096x2048 .f32) : IVec S4096x2048 1 :=
  let main_v0 : FVec F S4096x2048 .f32 := (fun l r => Host.dotGeneral dot_S4096x4096_S4096x2048_S4096x2048_1_0_0_1_n_n none l r) main_arg0 main_arg1
  let main_v1 : FVec F S4096x2048 .f32 := Host.absf main_v0
  let main_cst : FVec F S_ .f32 := constant S_ .f32 0x42700000#32
  let main_v2 : FVec F S4096x2048 .f32 := broadcastInDim S4096x2048 ![] bcast_S_S4096x2048 main_cst
  let main_v3 : IVec S4096x2048 1 := cmpf .ole main_v1 main_v2
  main_v3
-- ==== Kernel.lean ====
abbrev S4096x1024 : Shape := ⟨2, ![4096, 1024]⟩
abbrev S4096x2048 : Shape := ⟨2, ![4096, 2048]⟩
abbrev S1024x2048 : Shape := ⟨2, ![1024, 2048]⟩
abbrev S4x1024x1024 : Shape := ⟨3, ![4, 1024, 1024]⟩
abbrev S2x1024x2048 : Shape := ⟨3, ![2, 1024, 2048]⟩
abbrev S3 : Shape := ⟨1, ![3]⟩
abbrev S4 : Shape := ⟨1, ![4]⟩
abbrev S2 : Shape := ⟨1, ![2]⟩
abbrev S_ : Shape := ⟨0, ![]⟩
abbrev S1 : Shape := ⟨1, ![1]⟩
abbrev S1x1024x1024 : Shape := ⟨3, ![1, 1024, 1024]⟩
abbrev S1024x1024 : Shape := ⟨2, ![1024, 1024]⟩
abbrev S1x1024x2048 : Shape := ⟨3, ![1, 1024, 2048]⟩

abbrev nBuf : Space → Nat
  | .hbm => 3
  | .vmem => 3
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S1024x2048, .f32⟩
  | .local _ .vmem, ⟨0, _⟩ => ⟨S1024x2048, .f32⟩
  | .local _ .vmem, ⟨1, _⟩ => ⟨S4x1024x1024, .f32⟩
  | .local _ .vmem, ⟨2, _⟩ => ⟨S2x1024x2048, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  (ofTc nBuf bufTy 1 11 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_sem0_0 : DmaSem sig := 0
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let v5 : BitVec 32 := Scalar.remsi v4 c4_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_4 : BitVec 32 := 4#32
  let v9 : BitVec 32 := Scalar.remsi v8 c4_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v12 : BitVec 32 := Scalar.addi v2 c3_i32
  let c4_i32_8 : BitVec 32 := 4#32
  let v13 : BitVec 32 := Scalar.remsi v12 c4_i32_8
  let c1_i32_10 : BitVec 32 := 1#32
  let v14 : BitVec 32 := Scalar.muli v13 c1_i32_10
  let v15 : BitVec 32 := Scalar.addi c0_i32_11 v14
  v15.toNat
def k0_off1 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![v2.toNat]
def k0_off2 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_18 : BitVec 32 := 0#32
  let c0_i32_19 : BitVec 32 := 0#32
  ![v2.toNat, 0, 0]
def k0_off3 (d0 : Dev nD) (c1_i32_13 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v16 : BitVec 32 := Scalar.addi v2 c1_i32_13
  let c4_i32_14 : BitVec 32 := 4#32
  let v17 : BitVec 32 := Scalar.remsi v16 c4_i32_14
  let c1024_i32 : BitVec 32 := 1024#32
  let v18 : BitVec 32 := Scalar.muli v17 c1024_i32
  let c0_i32_20 : BitVec 32 := 0#32
  ![v18.toNat, 0]
def k0_dev4 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_13 : BitVec 32 := 1#32
  let v16 : BitVec 32 := Scalar.addi v2 c1_i32_13
  let c4_i32_14 : BitVec 32 := 4#32
  let v17 : BitVec 32 := Scalar.remsi v16 c4_i32_14
  let c1_i32_16 : BitVec 32 := 1#32
  let v19 : BitVec 32 := Scalar.muli v17 c1_i32_16
  let v20 : BitVec 32 := Scalar.addi c0_i32_17 v19
  v20.toNat
def k0_dev5 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_21 : BitVec 32 := 2#32
  let v28 : BitVec 32 := Scalar.addi v2 c2_i32_21
  let c4_i32_22 : BitVec 32 := 4#32
  let v29 : BitVec 32 := Scalar.remsi v28 c4_i32_22
  let c1_i32_25 : BitVec 32 := 1#32
  let v31 : BitVec 32 := Scalar.muli v29 c1_i32_25
  let v32 : BitVec 32 := Scalar.addi c0_i32_26 v31
  v32.toNat
def k0_dev6 (d0 : Dev nD) : Nat :=
  let c0_i32_35 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_30 : BitVec 32 := 3#32
  let v40 : BitVec 32 := Scalar.addi v2 c3_i32_30
  let c4_i32_31 : BitVec 32 := 4#32
  let v41 : BitVec 32 := Scalar.remsi v40 c4_i32_31
  let c1_i32_34 : BitVec 32 := 1#32
  let v43 : BitVec 32 := Scalar.muli v41 c1_i32_34
  let v44 : BitVec 32 := Scalar.addi c0_i32_35 v43
  v44.toNat
def k0_off4 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_39 : BitVec 32 := 1024#32
  let v52 : BitVec 32 := Scalar.muli v2 c1024_i32_39
  let c0_i32_42 : BitVec 32 := 0#32
  ![v52.toNat, 0]
def k0_off5 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_49 : BitVec 32 := 1024#32
  let v62 : BitVec 32 := Scalar.muli v2 c1024_i32_49
  let c0_i32_54 : BitVec 32 := 0#32
  ![v62.toNat, 0]
def k0_off6 (d0 : Dev nD) (c1_i32_43 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v56 : BitVec 32 := Scalar.addi v2 c1_i32_43
  let c4_i32_44 : BitVec 32 := 4#32
  let v57 : BitVec 32 := Scalar.remsi v56 c4_i32_44
  let c1024_i32_55 : BitVec 32 := 1024#32
  let v68 : BitVec 32 := Scalar.muli v57 c1024_i32_55
  let c0_i32_60 : BitVec 32 := 0#32
  ![v68.toNat, 0]
def k0_off7 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v82 : Index := Scalar.indexCast v2
  let c0 : Index := 0#32
  let c0_69 : Index := 0#32
  ![v82.toNat, 0, 0]
def k0_off8 (d0 : Dev nD) (c1_i32_43 : BitVec 32) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v56 : BitVec 32 := Scalar.addi v2 c1_i32_43
  let c4_i32_44 : BitVec 32 := 4#32
  let v57 : BitVec 32 := Scalar.remsi v56 c4_i32_44
  ![v57.toNat]
def k0_off9 (d0 : Dev nD) (c1_i32_43 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v56 : BitVec 32 := Scalar.addi v2 c1_i32_43
  let c4_i32_44 : BitVec 32 := 4#32
  let v57 : BitVec 32 := Scalar.remsi v56 c4_i32_44
  let c0_i32_84 : BitVec 32 := 0#32
  let c0_i32_85 : BitVec 32 := 0#32
  ![v57.toNat, 0, 0]
def k0_off10 (d0 : Dev nD) (c1_i32_43 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v56 : BitVec 32 := Scalar.addi v2 c1_i32_43
  let c4_i32_44 : BitVec 32 := 4#32
  let v57 : BitVec 32 := Scalar.remsi v56 c4_i32_44
  let v110 : Index := Scalar.indexCast v57
  let c0_95 : Index := 0#32
  let c0_96 : Index := 0#32
  ![v110.toNat, 0, 0]
abbrev stage0_0 : Fin 1 → Memref sig .tc .vmem S1024x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S4096x2048, .f32⟩
  | .hbm, ⟨7, _⟩ => ⟨S4096x2048, .f32⟩
  | .hbm, ⟨8, _⟩ => ⟨S_, .f32⟩
  | .hbm, ⟨9, _⟩ => ⟨S4096x2048, .f32⟩
  | .hbm, ⟨10, _⟩ => ⟨S4096x2048, .f32⟩
  | .hbm, ⟨11, _⟩ => ⟨S4096x2048, .f32⟩
  | .hbm, ⟨12, _⟩ => ⟨S4096x2048, .f32⟩
  | .hbm, ⟨13, _⟩ => ⟨S_, .f32⟩
  | .hbm, ⟨14, _⟩ => ⟨S4096x2048, .f32⟩
  | .hbm, ⟨15, _⟩ => ⟨S4096x2048, .f32⟩
  | .hbm, ⟨16, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_cst_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩

abbrev nD : Nat := 1
abbrev τ : Topo := Topo.v7x

variable {F : FTy → Type} [FloatOps F]
-- ==== Proof.Protocol.lean ====
/-
The protocol of the four devices, before any run.

Device `c` holds a column block of `x` (its `main_arg0`: four row blocks of 1024 rows) and the whole of `w`
(`main_arg1`: four row blocks of 1024 rows). Row block `k` of device `j`'s `x` is what device `k` needs from `j`, and
lands in comm slot `j` of device `k`.

* the barrier counter: each device puts one unit on the barrier of each of the other three and waits for 3 on its own.
  The unit that device `p` puts on device `c`'s barrier hands `c` the comm slot `c` of device `p`: `c` may write there.
* send counters 1, 2, 3 (DMA semaphores 1, 2, 3): the copy from `c` to the device `n` steps on returns on counter `n` the row
  block of `c`'s `x` that it read. Waited for at the very end.
* receive counters (DMA semaphores 4 to 7): the copy from device `j` completes on counter `4 + j` of the receiver `c` and hands over
  comm slot `j` of `c` HOLDING row block `c` of device `j`'s `x`. There is none from `c` itself.
* the own copy (DMA semaphore 10): comm slot `c` of `c` holding its own row block `c`, and that row block back.
* the two `w` buffers (DMA semaphores 8, 9), each used for two rounds: buffer 0 holds row block `c` of `w` and then row block
  `c + 3`; buffer 1 holds row block `c + 1` and then `c + 2`. Each landing also returns the row block of `w` that it read.

Every wait but the barrier's happens when the device owes nothing; at the barrier wait it owes the three copies,
whose counters lie above the barriers.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Ring
public import Idealize.ShloMosaic.Lib.Tactic

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## Ghost state: the pipeline's, and rounds whose duties are named by devices -/

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: any contents, counters at zero, any generator registers. -/
def s₀ : MemSt nD τ sig (Elt F) := ⟨m, fun _ => 0, ρ⟩

/-! ## Devices -/

set_option backward.proofsInPublic true in
/-- The device `d` steps on from `c`. -/
def pd (c : Dev nD) (d : ℕ) : Dev nD := ⟨(c.val + d) % 4, Nat.mod_lt _ (by decide)⟩

/-- No step on is the device itself. -/
theorem pd_zero (c : Dev nD) : pd c 0 = c := by revert c; decide
/-- One to three steps on is another device. -/
theorem pd_ne (c : Dev nD) (d : Fin 4) (h : d ≠ 0) : pd c d.val ≠ c := by revert c d; decide

/-! ## Semaphores and cells -/

/-- The runtime's barrier semaphore. -/
abbrev barS : Sem sig := (SemArray.scalar (sig.barrier 0 rfl) : Sems sig S_).sem

/-- The eleven semaphores of the protocol: the barrier at 0, DMA semaphore `k` at `k`. -/
def csem : Fin 11 → SemLoc sig
  | ⟨0, _⟩ => .reg barS
  | ⟨n + 1, h⟩ => .dma ⟨n + 1, h⟩

/-- The index of the receive counter of copies from device `j`. -/
abbrev rk (j : Dev nD) : Fin 11 := ⟨j.val + 4, by have : j.val < 4 := j.isLt; omega⟩

abbrev kcell (ck : Dev nD × Fin 11) : GSem nD τ sig := ((ck.1 : Thread nD τ), csem ck.2)
abbrev kc (c : Dev nD) (k : Fin 11) : GSem nD τ sig := kcell (c, k)

/-! ## The slices -/

/-- Row block `k` lies within `x`. -/
theorem xInb (k : Dev nD) : ∀ a, (![1024 * k.val, 0] : Fin 2 → ℕ) a + S1024x1024.size a ≤ S4096x1024.size a := by revert k; decide
/-- Row block `k` lies within `w`. -/
theorem wInb (k : Dev nD) : ∀ a, (![1024 * k.val, 0] : Fin 2 → ℕ) a + S1024x2048.size a ≤ S4096x2048.size a := by revert k; decide
/-- Slot `j` lies within the comm buffer. -/
theorem slInb (j : Dev nD) : ∀ a, (![j.val, 0, 0] : Fin 3 → ℕ) a + S1x1024x1024.size a ≤ S4x1024x1024.size a := by revert j; decide
/-- Buffer `b` lies within the `w` buffers. -/
theorem wbInb (b : Fin 2) : ∀ a, (![b.val, 0, 0] : Fin 3 → ℕ) a + S1x1024x2048.size a ≤ S2x1024x2048.size a := by revert b; decide

abbrev xM : Memref sig .tc .hbm S4096x1024 .f32 := Memref.whole main_arg0
abbrev wM : Memref sig .tc .hbm S4096x2048 .f32 := Memref.whole main_arg1
abbrev oM : Memref sig .tc .vmem S1024x2048 .f32 := Memref.whole cc0_stg0_0
abbrev cM : Memref sig .tc .vmem S4x1024x1024 .f32 := Memref.whole cc0_scratch0
abbrev bM : Memref sig .tc .vmem S2x1024x2048 .f32 := Memref.whole cc0_scratch1

abbrev slR (j : Dev nD) : Rect S4x1024x1024 := Rect.unit (s := S4x1024x1024) ![j.val, 0, 0] S1x1024x1024.size (slInb j)
abbrev wbR (b : Fin 2) : Rect S2x1024x2048 := Rect.unit (s := S2x1024x2048) ![b.val, 0, 0] S1x1024x2048.size (wbInb b)
abbrev xR (k : Dev nD) : Rect S4096x1024 := Rect.unit (s := S4096x1024) ![1024 * k.val, 0] S1024x1024.size (xInb k)
abbrev wR (k : Dev nD) : Rect S4096x2048 := Rect.unit (s := S4096x2048) ![1024 * k.val, 0] S1024x2048.size (wInb k)

/-- Row block `k` of `x`; of `w`; comm slot `j`; `w` buffer `b`. -/
abbrev xB (k : Dev nD) : Memref sig .tc .hbm S1024x1024 .f32 := xM.slice (xR k) (fun _ => rfl)
abbrev wB (k : Dev nD) : Memref sig .tc .hbm S1024x2048 .f32 := wM.slice (wR k) (fun _ => rfl)
abbrev sl (j : Dev nD) : Memref sig .tc .vmem S1024x1024 .f32 := (cM.slice (slR j) (fun _ => rfl)).squeeze S1024x1024 squeezes_S1x1024x1024_S1024x1024
abbrev wb (b : Fin 2) : Memref sig .tc .vmem S1024x2048 .f32 := (bM.slice (wbR b) (fun _ => rfl)).squeeze S1024x2048 squeezes_S1x1024x2048_S1024x2048

/-- The credit of a 1024 × 1024 block, and of a 1024 × 2048 block. -/
abbrev NX : ℕ := (sl 0).view.dmaCredit
abbrev NW : ℕ := (wb 0).view.dmaCredit
/-- A block of `x` has a positive credit. -/
theorem NX_pos : 0 < NX := View.dmaCredit_pos _ (by decide)
/-- A block of `w` has a positive credit. -/
theorem NW_pos : 0 < NW := View.dmaCredit_pos _ (by decide)

/-! ## Contents -/

/-- Device `c`'s `x` at launch, as the contents of the buffer that row block `k` is a part of; its `w`. -/
def xbuf (c k : Dev nD) : Buf (Elt F) ((xB k).view.loc (c : Thread nD τ)) := m ((c : Thread nD τ).loc main_arg0)
def wbuf (c k : Dev nD) : Buf (Elt F) ((wB k).view.loc (c : Thread nD τ)) := m ((c : Thread nD τ).loc main_arg1)

/-- Row block `k` of device `j`'s `x`. -/
def xrow (j k : Dev nD) : S1024x1024.Idx → Elt F .f32 := (xB k).view.read (Elt F) (xbuf m j k)
/-- Row block `k` of device `c`'s `w`. -/
def wrow (c k : Dev nD) : S1024x2048.Idx → Elt F .f32 := (wB k).view.read (Elt F) (wbuf m c k)

/-- The elements of row block `k` of device `c`'s `x`, at their launch contents; of `w`. -/
def xpt (c k : Dev nD) : sProp 𝕄 := (xB k).view.loc (c : Thread nD τ) ↦[(xB k).view.set]{fullShare} xbuf m c k
def wpt (c k : Dev nD) : sProp 𝕄 := (wB k).view.loc (c : Thread nD τ) ↦[(wB k).view.set]{fullShare} wbuf m c k
/-- Comm slot `j` of device `c` holding `X`; `w` buffer `b` holding `X`. -/
def slo (c j : Dev nD) (X : S1024x1024.Idx → Elt F .f32) : sProp 𝕄 := owns (c : Thread nD τ) (sl j) fullShare X
def wbo (c : Dev nD) (b : Fin 2) (X : S1024x2048.Idx → Elt F .f32) : sProp 𝕄 := owns (c : Thread nD τ) (wb b) fullShare X

omit [FloatOps F] in
instance xpt_storable (c k : Dev nD) : BI.Storable (upEmb : UEmb _ 𝕄) (xpt m c k) := by unfold xpt; infer_instance
omit [FloatOps F] in
instance wpt_storable (c k : Dev nD) : BI.Storable (upEmb : UEmb _ 𝕄) (wpt m c k) := by unfold wpt; infer_instance
omit [FloatOps F] in
instance slo_storable (c j : Dev nD) (X) : BI.Storable (upEmb : UEmb _ 𝕄) (slo (F := F) c j X) := by unfold slo; infer_instance
omit [FloatOps F] in
instance wbo_storable (c : Dev nD) (b) (X) : BI.Storable (upEmb : UEmb _ 𝕄) (wbo (F := F) c b X) := by unfold wbo; infer_instance

/-! ## The schedule -/

/-- Which row block of `w` round `r` of buffer `b` on device `c` brings, as a distance from `c`. -/
def wd : Fin 2 → ℕ → ℕ
  | 0, 0 => 0
  | 0, _ => 3
  | 1, 0 => 1
  | 1, _ => 2

/-- What a landing on DMA semaphore `n` of device `c` hands over at round `r`. -/
def dmaPay (c : Dev nD) : ℕ → ℕ → sProp 𝕄
  | 0, _ => iprop(emp)
  | 1, _ => xpt m c (pd c 1)
  | 2, _ => xpt m c (pd c 2)
  | 3, _ => xpt m c (pd c 3)
  | 4, _ => slo c 0 (xrow m 0 c)
  | 5, _ => slo c 1 (xrow m 1 c)
  | 6, _ => slo c 2 (xrow m 2 c)
  | 7, _ => slo c 3 (xrow m 3 c)
  | 8, r => iprop(wbo c 0 (wrow m c (pd c (wd 0 r))) ∗ wpt m c (pd c (wd 0 r)))
  | 9, r => iprop(wbo c 1 (wrow m c (pd c (wd 1 r))) ∗ wpt m c (pd c (wd 1 r)))
  | 10, _ => iprop(slo c c (xrow m c c) ∗ xpt m c c)
  | _ + 11, _ => iprop(emp)

/-- Whether DMA semaphore `n` of device `c` has a landing at round `r`. -/
def dmaOn (c : Dev nD) : ℕ → ℕ → Bool
  | 0, _ => false
  | 1, r => r == 0
  | 2, r => r == 0
  | 3, r => r == 0
  | 4, r => r == 0 && c != 0
  | 5, r => r == 0 && c != 1
  | 6, r => r == 0 && c != 2
  | 7, r => r == 0 && c != 3
  | 8, r => decide (r < 2)
  | 9, r => decide (r < 2)
  | 10, r => r == 0
  | _ + 11, _ => false

/-- The credit of a landing on DMA semaphore `n`. -/
def dmaAmt : ℕ → ℕ
  | 8 => NW
  | 9 => NW
  | _ => NX

/-- Every landing has a positive credit. -/
theorem dmaAmt_pos (n : ℕ) : 0 < dmaAmt n := by
  unfold dmaAmt; split
  · exact NW_pos
  · exact NW_pos
  · exact NX_pos

/-- The rounds of every cell. -/
def sched : Rounds.Schedule (GSem nD τ sig) (Dev nD) 𝕄 where
  duties g r := match g.2 with
    | .reg _ => if g.1.2 = .tc ∧ r = 0 then Finset.univ.erase g.1.1 else ∅
    | .dma q => if g.1.2 = .tc ∧ dmaOn g.1.1 q.val r = true then {0} else ∅
  unitless _ := False
  amount g _ _ := match g.2 with
    | .reg _ => 1
    | .dma q => dmaAmt q.val
  payload g r d := match g.2 with
    | .reg _ => iprop(∃ X, slo d g.1.1 X)
    | .dma q => dmaPay m g.1.1 q.val r
  amount_pos g _ _ _ := by
    rcases g with ⟨t, _ | q⟩
    · exact Nat.one_pos
    · exact dmaAmt_pos _

omit [FloatOps F] in
instance dmaPay_storable (c : Dev nD) (n r : ℕ) : BI.Storable (upEmb : UEmb _ 𝕄) (dmaPay (F := F) m c n r) := by
  unfold dmaPay; split <;> infer_instance

omit [FloatOps F] in
instance sched_storable (g : GSem nD τ sig) (r : ℕ) (d : Dev nD) :
    BI.Storable (upEmb : UEmb _ 𝕄) ((sched (F := F) m).payload g r d) := by
  rcases g with ⟨t, _ | q⟩
  · show BI.Storable upEmb (iprop(∃ X, slo d t.1 X)); infer_instance
  · show BI.Storable upEmb (dmaPay m t.1 q.val r); infer_instance

section Table
variable (c : Dev nD)

omit [FloatOps F] in
/-- Every other device puts a unit on device `c`'s barrier. -/
theorem duties_bar : (sched (F := F) m).duties (kc c 0) 0 = Finset.univ.erase c :=
  show (if (kc c 0).1.2 = .tc ∧ (0 : ℕ) = 0 then Finset.univ.erase c else ∅) = Finset.univ.erase c from if_pos ⟨rfl, rfl⟩
omit [FloatOps F] in
/-- It is one unit. -/
theorem amount_bar (d : Dev nD) : (sched (F := F) m).amount (kc c 0) 0 d = 1 := rfl
omit [FloatOps F] in
/-- It hands over slot `c` of the device that pays it. -/
theorem payload_bar (d : Dev nD) : (sched (F := F) m).payload (kc c 0) 0 d = iprop(∃ X, slo d c X) := rfl
omit [FloatOps F] in
/-- The barrier's round is three units. -/
theorem expect_bar : (sched (F := F) m).expect (kc c 0) 0 = 3 := by
  unfold Schedule.expect Schedule.amountOf
  rw [duties_bar, Finset.sum_congr rfl fun d _ => amount_bar m c d, Finset.sum_const, Finset.card_erase_of_mem (Finset.mem_univ _)]
  rfl

omit [FloatOps F] in
/-- A DMA counter's round that has a landing has one. -/
theorem duties_dma (k : Fin 11) (hk : k ≠ 0) (r : ℕ) (h : dmaOn c k.val r = true) : (sched (F := F) m).duties (kc c k) r = {0} := by
  rcases k with ⟨_ | n, hn⟩
  · exact absurd rfl hk
  · exact if_pos ⟨rfl, h⟩
omit [FloatOps F] in
/-- Its credit is `dmaAmt`. -/
theorem amount_dma (k : Fin 11) (hk : k ≠ 0) (r : ℕ) (d : Dev nD) : (sched (F := F) m).amount (kc c k) r d = dmaAmt k.val := by
  rcases k with ⟨_ | n, hn⟩
  · exact absurd rfl hk
  · rfl
omit [FloatOps F] in
/-- It hands over `dmaPay`. -/
theorem payload_dma (k : Fin 11) (hk : k ≠ 0) (r : ℕ) (d : Dev nD) : (sched (F := F) m).payload (kc c k) r d = dmaPay m c k.val r := by
  rcases k with ⟨_ | n, hn⟩
  · exact absurd rfl hk
  · rfl
omit [FloatOps F] in
/-- The round is that one landing's credit. -/
theorem expect_dma (k : Fin 11) (hk : k ≠ 0) (r : ℕ) (h : dmaOn c k.val r = true) : (sched (F := F) m).expect (kc c k) r = dmaAmt k.val := by
  unfold Schedule.expect Schedule.amountOf
  rw [duties_dma m c k hk r h, Finset.sum_singleton, amount_dma m c k hk]
omit [FloatOps F] in
/-- The whole of a DMA round is its one landing. -/
theorem rest_dma (k : Fin 11) (hk : k ≠ 0) (r : ℕ) (h : dmaOn c k.val r = true) :
    bigSep ((sched (F := F) m).duties (kc c k) r \ ∅) (fun d => (sched (F := F) m).payload (kc c k) r d) = dmaPay m c k.val r := by
  rw [Finset.sdiff_empty, duties_dma m c k hk r h, bigSep_singleton, payload_dma m c k hk]

/-- No DMA counter has a landing from round 2 on. -/
theorem dmaOn_later (n : ℕ) (r : ℕ) (hr : 2 ≤ r) : dmaOn c n r = false := by
  have h0 : (r == 0) = false := by simp; omega
  unfold dmaOn; split <;> simp [h0] <;> omega
/-- All but the `w` buffers' counters have none from round 1 on. -/
theorem dmaOn_one (n : ℕ) (hn : n ≠ 8) (hn' : n ≠ 9) (r : ℕ) (hr : 1 ≤ r) : dmaOn c n r = false := by
  have h0 : (r == 0) = false := by simp; omega
  unfold dmaOn; split <;> simp_all
omit [FloatOps F] in
/-- No cell has a duty from round 2 on. -/
theorem duties_later (k : Fin 11) : ∀ r, 2 ≤ r → (sched (F := F) m).duties (kc c k) r = ∅ := fun r hr => by
  rcases k with ⟨_ | n, hn⟩
  · exact if_neg (fun h => by omega)
  · exact if_neg (fun h => by have := dmaOn_later c (n + 1) r hr; rw [this] at h; exact Bool.false_ne_true h.2)
omit [FloatOps F] in
/-- All but the `w` buffers' have none from round 1 on. -/
theorem duties_one (k : Fin 11) (h8 : k.val ≠ 8) (h9 : k.val ≠ 9) : ∀ r, 1 ≤ r → (sched (F := F) m).duties (kc c k) r = ∅ := fun r hr => by
  rcases k with ⟨_ | n, hn⟩
  · exact if_neg (fun h => by omega)
  · exact if_neg (fun h => by have := dmaOn_one c (n + 1) h8 h9 r hr; rw [this] at h; exact Bool.false_ne_true h.2)
omit [FloatOps F] in
/-- A device's own receive counter is never used. -/
theorem duties_self : ∀ r, 0 ≤ r → (sched (F := F) m).duties (kc c (rk c)) r = ∅ := fun r _ => by
  refine if_neg (fun h => ?_)
  have : dmaOn c (c.val + 4) r = false := by
    rcases r with _ | r
    · revert c; decide
    · have hc : c.val < 4 := c.isLt
      exact dmaOn_one c _ (by omega) (by omega) _ (by omega)
  rw [show ((rk c).val : ℕ) = c.val + 4 from rfl] at *
  exact Bool.false_ne_true (this.symm.trans h.2)

omit [FloatOps F] in
/-- A landing from device `j` hands over slot `j` holding the row block that `j` sent. -/
theorem dmaPay_recv (j : Dev nD) (r : ℕ) : dmaPay (F := F) m c (rk j).val r = slo c j (xrow m j c) := by
  fin_cases j <;> rfl
/-- There is one from every other device. -/
theorem dmaOn_recv (j : Dev nD) (h : c ≠ j) : dmaOn c (rk j).val 0 = true := by
  revert c j; decide
/-- It is worth a block of `x`. -/
theorem dmaAmt_recv (j : Dev nD) : dmaAmt (rk j).val = NX := by fin_cases j <;> rfl

end Table

/-! ## What each device owes at launch; the levels -/

/-- The three copies' credit, the first copy's last. -/
def OS (c : Dev nD) : CellTallies nD τ sig Unit :=
  tallyAt (kc (pd c 3) (rk c)) () NX + tallyAt (kc (pd c 2) (rk c)) () NX + tallyAt (kc (pd c 1) (rk c)) () NX
/-- With the three barrier units, the first signal's last. -/
def O₀ (c : Dev nD) : CellTallies nD τ sig Unit :=
  OS c + tallyAt (kc (pd c 3) 0) () 1 + tallyAt (kc (pd c 2) 0) () 1 + tallyAt (kc (pd c 1) 0) () 1

def L (g : GSem nD τ sig) : Finset Unit := if g.1.2 = .tc then {()} else ∅
/-- Barriers at 1, receive counters at 2, the rest at 0. -/
def lv (g : GSem nD τ sig) (_ : Unit) : ℕ := match g.2 with
  | .reg _ => 1
  | .dma q => if 4 ≤ q.val ∧ q.val < 8 then 2 else 0

/-- Levels are given on the TensorCores only. -/
theorem L_of_ne (g : GSem nD τ sig) (h : g.1.2 ≠ .tc) : L g = ∅ := if_neg h
/-- There each cell has its one. -/
theorem L_tc (c : Dev nD) (sm : SemLoc sig) : L ((c : Thread nD τ), sm) = {()} := if_pos rfl

/-- A barrier is at level 1. -/
theorem lv_bar (c : Dev nD) (u : Unit) : lv (kc c 0) u = 1 := rfl
/-- A receive counter is at level 2. -/
theorem lv_recv (c j : Dev nD) (u : Unit) : lv (kc c (rk j)) u = 2 := by
  have : j.val < 4 := j.isLt
  exact if_pos ⟨by show 4 ≤ j.val + 4; omega, by show j.val + 4 < 8; omega⟩

/-- A positive tally names its cell. -/
theorem tally_pos {g g' : GSem nD τ sig} {n : ℕ} {u : Unit} (h : 0 < tallyAt g' () n g u) : g = g' := by
  rw [tallyAt_apply] at h
  by_contra hn
  rw [if_neg (fun h' => hn h'.1)] at h
  exact Nat.lt_irrefl 0 h

/-- The copies' credit is owed on receive counters named for the sender. -/
theorem OS_pos {c : Dev nD} {g : GSem nD τ sig} {u : Unit} (h : 0 < OS c g u) : ∃ j, g = kc j (rk c) := by
  unfold OS at h
  rw [Pi.add_apply, Finsupp.add_apply, Pi.add_apply, Finsupp.add_apply] at h
  have : 0 < tallyAt (kc (pd c 3) (rk c)) () NX g u ∨ 0 < tallyAt (kc (pd c 2) (rk c)) () NX g u ∨ 0 < tallyAt (kc (pd c 1) (rk c)) () NX g u := by omega
  rcases this with h | h | h <;> exact ⟨_, tally_pos h⟩

/-- What is owed at launch is owed on those or on barriers. -/
theorem O₀_pos {c : Dev nD} {g : GSem nD τ sig} {u : Unit} (h : 0 < O₀ c g u) : (∃ j, g = kc j (rk c)) ∨ ∃ j, g = kc j 0 := by
  unfold O₀ at h
  rw [Pi.add_apply, Finsupp.add_apply, Pi.add_apply, Finsupp.add_apply, Pi.add_apply, Finsupp.add_apply] at h
  have : 0 < OS c g u ∨ 0 < tallyAt (kc (pd c 3) 0) () 1 g u ∨ 0 < tallyAt (kc (pd c 2) 0) () 1 g u ∨ 0 < tallyAt (kc (pd c 1) 0) () 1 g u := by omega
  rcases this with h | h | h | h
  · exact .inl (OS_pos h)
  all_goals exact .inr ⟨_, tally_pos h⟩

omit [FloatOps F] in
/-- A staging wait is below all that a device may owe. -/
theorem mayWait_stage (c : Dev nD) (q : DmaSem sig) (hq : ¬ (4 ≤ q.val ∧ q.val < 8)) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨j, rfl⟩ | ⟨j, rfl⟩ <;> exact Finset.mem_singleton_self _)
      (fun p hp => by rw [Finset.mem_singleton.mp hp]; exact le_of_eq (if_neg hq))
      (fun g u hg => by
        rcases O₀_pos hg with ⟨j, rfl⟩ | ⟨j, rfl⟩
        · rw [lv_recv]; decide
        · rw [lv_bar]; decide)
  · rw [MayWait_zero]; iintro -; iempintro

omit [FloatOps F] in
/-- At its barrier wait a device owes its three copies only, all on receive counters. -/
theorem mayWait_bar (c : Dev nD) : (levAts L lv : sProp 𝕄) ⊢ MayWait (c : Thread nD τ) (.reg barS) () (OS c) :=
  MayOwe.of_cut (L := L) (lev := lv) 1 (fun p hp => by rw [Finset.mem_singleton.mp hp, L_tc]; exact Finset.mem_singleton_self _)
    (fun g u hg => by obtain ⟨j, rfl⟩ := OS_pos hg; exact Finset.mem_singleton_self _)
    (fun p hp => by rw [Finset.mem_singleton.mp hp]; exact le_of_eq rfl)
    (fun g u hg => by obtain ⟨j, rfl⟩ := OS_pos hg; rw [lv_recv]; decide)

/-! ## The printed slices and semaphores are these -/

/-- A slice of `x` at the offset of row block `k`. -/
theorem xB_of (off : Fin 2 → ℕ) (k : Dev nD) (h : off = ![1024 * k.val, 0]) (p) (q) :
    xM.slice (Rect.unit (s := S4096x1024) off S1024x1024.size p) q = xB k := by subst h; rfl
/-- A slice of `w` at the offset of row block `k`. -/
theorem wB_of (off : Fin 2 → ℕ) (k : Dev nD) (h : off = ![1024 * k.val, 0]) (p) (q) :
    wM.slice (Rect.unit (s := S4096x2048) off S1024x2048.size p) q = wB k := by subst h; rfl
/-- A slice of the comm buffer at the offset of slot `j`. -/
theorem sl_of (off : Fin 3 → ℕ) (j : Dev nD) (h : off = ![j.val, 0, 0]) (p) (q) (e) :
    (cM.slice (Rect.unit (s := S4x1024x1024) off S1x1024x1024.size p) q).squeeze S1024x1024 e = sl j := by subst h; rfl
/-- Its rectangle. -/
theorem slR_of (off : Fin 3 → ℕ) (j : Dev nD) (h : off = ![j.val, 0, 0]) (p) :
    Rect.unit (s := S4x1024x1024) off S1x1024x1024.size p = slR j := by subst h; rfl

/-- The first send semaphore is DMA semaphore 1. -/
theorem sendS_eq0 : ((cc0_scratch2.slice (Rect.unit (s := S3) ![0] S1.size inb_S3_S1_0)).squeeze S_ squeezes_S1_S_).sem = (⟨1, by decide⟩ : DmaSem sig) := rfl
/-- The second is DMA semaphore 2. -/
theorem sendS_eq1 : ((cc0_scratch2.slice (Rect.unit (s := S3) ![1] S1.size inb_S3_S1_1)).squeeze S_ squeezes_S1_S_).sem = (⟨2, by decide⟩ : DmaSem sig) := rfl
/-- The third is DMA semaphore 3. -/
theorem sendS_eq2 : ((cc0_scratch2.slice (Rect.unit (s := S3) ![2] S1.size inb_S3_S1_2)).squeeze S_ squeezes_S1_S_).sem = (⟨3, by decide⟩ : DmaSem sig) := rfl
/-- The first `w` buffer's is DMA semaphore 8. -/
theorem wS_eq0 : ((cc0_scratch4.slice (Rect.unit (s := S2) ![0] S1.size inb_S2_S1_0)).squeeze S_ squeezes_S1_S_).sem = (⟨8, by decide⟩ : DmaSem sig) := rfl
/-- The second's is DMA semaphore 9. -/
theorem wS_eq1 : ((cc0_scratch4.slice (Rect.unit (s := S2) ![1] S1.size inb_S2_S1_1)).squeeze S_ squeezes_S1_S_).sem = (⟨9, by decide⟩ : DmaSem sig) := rfl
/-- The own copy's is DMA semaphore 10. -/
theorem xS_eq : cc0_scratch5.sem = (⟨10, by decide⟩ : DmaSem sig) := rfl
/-- The receive semaphore of copies from device `j`. -/
theorem recvS_of (off : Fin 1 → ℕ) (j : Dev nD) (h : off = ![j.val]) (p) :
    ((cc0_scratch3.slice (Rect.unit (s := S4) off S1.size p)).squeeze S_ squeezes_S1_S_).sem = (⟨(rk j).val, (rk j).isLt⟩ : DmaSem sig) := by
  subst h; revert j; decide

end Cert.KernelIdeal.Run

end
-- ==== Proof.Steps.lean ====
/-
One lemma per kind of step that the kernel takes: a copy to another device, a copy into a device's own buffers, a DMA
wait, a load of a comm slot or of a `w` buffer, the loads and stores of the result's staging buffer. Each takes the
printed slices and semaphores with equations that say which of the protocol's they are.
-/
module

public import proofs.«01_k».proof.Proof.Protocol

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-! ## The records every device holds -/

/-- Every cell's invariant, at the names `K`. -/
def invsAll (K : Dev nD × Fin 11 → ℕ) : sProp 𝕄 := bigSep Finset.univ fun ck : Dev nD × Fin 11 => cellInv ER (sched m) (K ck) (kcell ck)
/-- That every cell has reached round 0. -/
def marksAll : sProp 𝕄 := bigSep Finset.univ fun ck : Dev nD × Fin 11 => reached ER (kcell ck) 0
def records (K : Dev nD × Fin 11 → ℕ) : sProp 𝕄 := iprop(invsAll m K ∗ marksAll)

instance records_persistent (K : Dev nD × Fin 11 → ℕ) : BI.Persistent (records m K) := by
  unfold records invsAll marksAll; infer_instance

omit [FloatOps F] in
/-- Any one cell's invariant out of all of them. -/
theorem invsAll_at (K : Dev nD × Fin 11 → ℕ) (ck : Dev nD × Fin 11) : invsAll m K ⊢ cellInv ER (sched m) (K ck) (kcell ck) :=
  bigSep_elim (Finset.mem_univ ck)
omit [FloatOps F] in
/-- Any one cell's mark that its round 0 is reached, out of all of them. -/
theorem marksAll_at (ck : Dev nD × Fin 11) : marksAll ⊢ (reached ER (kcell ck) 0 : sProp 𝕄) :=
  bigSep_elim (Finset.mem_univ ck)

omit [FloatOps F] in
/-- The shared records hold the invariant of counter `k` of device `c`. -/
theorem inv_of (K : Dev nD × Fin 11 → ℕ) (c : Dev nD) (k : Fin 11) : records m K ⊢ cellInv ER (sched m) (K (c, k)) (kc c k) := by
  unfold records
  iintro ⟨H, -⟩
  iapply (invsAll_at m K (c, k)); iexact H

omit [FloatOps F] in
/-- The shared records hold the mark that round 0 of that counter is reached. -/
theorem mark_of (K : Dev nD × Fin 11 → ℕ) (c : Dev nD) (k : Fin 11) : records m K ⊢ reached ER (kc c k) 0 := by
  unfold records
  iintro ⟨-, H⟩
  iapply (marksAll_at (F := F) (c, k)); iexact H

/-- Device `c` owes `O`, whatever it has waited for. -/
def ow (c : Dev nD) (O : CellTallies nD τ sig Unit) : sProp 𝕄 := iprop(∃ W : Waits sig Unit, owes (c : Thread nD τ) O W)

section Steps
variable (K : Dev nD × Fin 11 → ℕ) (c : Dev nD)

/-! ## Copies -/

omit [FloatOps F] in
/-- Comm slot `j` of device `n`, just written with row block `k` of device `c`'s `x`. -/
theorem slo_landed (n j k : Dev nD) (fd : Buf (Elt F) ((sl j).view.loc (n : Thread nD τ))) :
    ((sl j).view.loc (n : Thread nD τ) ↦[(sl j).view.set]{fullShare}
        (sl j).view.write (Elt F) fd ((xB k).view.read (Elt F) (xbuf m c k)) Finset.univ)
      ⊢ (slo n j (xrow m c k) : sProp 𝕄) := by
  unfold slo xrow
  refine (owns_intro _ _ _ _).trans (Entails.of_eq ?_)
  rw [View.read_write_univ]

omit [FloatOps F] in
/-- `w` buffer `b`, just written with row block `k` of `w`. -/
theorem wbo_landed (b : Fin 2) (k : Dev nD) (fd : Buf (Elt F) ((wb b).view.loc (c : Thread nD τ))) :
    ((wb b).view.loc (c : Thread nD τ) ↦[(wb b).view.set]{fullShare}
        (wb b).view.write (Elt F) fd ((wB k).view.read (Elt F) (wbuf m c k)) Finset.univ)
      ⊢ (wbo c b (wrow m c k) : sProp 𝕄) := by
  unfold wbo wrow
  refine (owns_intro _ _ _ _).trans (Entails.of_eq ?_)
  rw [View.read_write_univ]

/-- Facts of send counter `d + 1`. -/
theorem send_on (d : ℕ) (hd : d + 1 < 4) : dmaOn c (d + 1) 0 = true := by
  have : d = 0 ∨ d = 1 ∨ d = 2 := by omega
  rcases this with rfl | rfl | rfl <;> rfl
/-- A landing on a send counter is worth a block of `x`. -/
theorem send_amt (d : ℕ) (hd : d + 1 < 4) : dmaAmt (d + 1) = NX := by
  have : d = 0 ∨ d = 1 ∨ d = 2 := by omega
  rcases this with rfl | rfl | rfl <;> rfl
omit [FloatOps F] in
/-- It gives back the row block of `x` that was sent. -/
theorem send_pay (d : ℕ) (hd : d + 1 < 4) : dmaPay m c (d + 1) 0 = xpt m c (pd c (d + 1)) := by
  have : d = 0 ∨ d = 1 ∨ d = 2 := by omega
  rcases this with rfl | rfl | rfl <;> rfl

/-- What a landing in a comm slot credits, on any DMA semaphore; in a `w` buffer. -/
theorem sl_amount (j : Dev nD) (s : Fin 11) (hs0 : s ≠ 0) : (sl j).view.amount (csem s) = NX := by
  rcases s with ⟨_ | n, hn⟩
  · exact absurd rfl hs0
  · rfl
/-- A landing in a `w` buffer credits a block of `w`, on any DMA semaphore. -/
theorem wb_amount (b : Fin 2) (s : Fin 11) (hs0 : s ≠ 0) : (wb b).view.amount (csem s) = NW := by
  rcases s with ⟨_ | n, hn⟩
  · exact absurd rfl hs0
  · rfl

/-- The index of send counter `d + 1`. -/
abbrev sk (d : ℕ) (h : d + 1 < 4) : Fin 11 := ⟨d + 1, lt_of_lt_of_le h (by decide)⟩

/-- A copy to another device `t`: its comm slot `c` gets row block `t` of `x`, and send counter `s` gets the source back. -/
theorem wp_send_to (t : Dev nD) (ht : t ≠ c) (s : Fin 11) (hs0 : s ≠ 0) (hson : dmaOn c s.val 0 = true) (hsamt : dmaAmt s.val = NX)
    (hspay : dmaPay m c s.val 0 = xpt m c t)
    {hsc : (sl c).view.ref.isScScratch = false} {hsrc : (xB t).view.WordExact} {hdst : (sl c).view.WordExact}
    {hsem : DmaTarget.Typed .hbm (csem (rk c)) (.remote (Dev.tc t : Thread nD τ) (sl c) (csem s) hsc)}
    {α : Type} {Q : α → sProp 𝕄} {k : PUnit → Prog (TpuEff nD τ sig (Elt F) Λ₀ .tc) α}
    (O : CellTallies nD τ sig Unit) :
    iprop(records m K ∗ xpt m c t ∗ (∃ X, slo t c X) ∗ ow c (O + tallyAt (kc t (rk c)) () NX)
        ∗ dutyTok ER (kc c s) 0 0 ∗ dutyTok ER (kc t (rk c)) 0 0)
      ⊢ iprop(((cred (tallyAt (kc c s) () NX) ∗ ow c O)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (xB t) (.remote (Dev.tc t : Thread nD τ) (sl c) (csem s) hsc) (csem (rk c)) hsrc hdst hsem) k) Q) := by
  have hr0 : rk c ≠ 0 := fun h => by cases h
  have hds : (0 : Dev nD) ∈ (sched (F := F) m).duties (kc c s) 0 := by
    rw [duties_dma m c s hs0 0 hson]; exact Finset.mem_singleton_self _
  have hdr : (0 : Dev nD) ∈ (sched (F := F) m).duties (kc t (rk c)) 0 := by
    rw [duties_dma m _ (rk c) hr0 0 (dmaOn_recv _ _ ht)]; exact Finset.mem_singleton_self _
  have hps : (xpt m c t : sProp 𝕄) ⊢ (sched m).payload (kc c s) 0 0 := by
    rw [payload_dma m c s hs0, hspay]
  have hpr (fd : Buf (Elt F) ((sl c).view.loc (t : Thread nD τ))) :
      ((sl c).view.loc (t : Thread nD τ) ↦[(sl c).view.set]{fullShare}
        (sl c).view.write (Elt F) fd ((xB t).view.read (Elt F) (xbuf m c t)) Finset.univ)
      ⊢ ((sched m).payload (kc t (rk c)) 0 0 : sProp 𝕄) := by
    rw [payload_dma m _ (rk c) hr0, dmaPay_recv]
    exact slo_landed m c _ _ _ fd
  iintro ⟨#HR, Hx, ⟨%X, Hs⟩, HO, Ht, Ht'⟩ Hk
  unfold slo owns ow
  icases Hs with ⟨%fd, %hfd, Hs⟩
  icases HO with ⟨%W, HO⟩
  iapply (Rounds.wp_send_pointsTo 𝒱₀ ER (sched m) (c : Thread nD τ) none (c' := (Dev.tc t : Thread nD τ))
    (src := xB t) (dst := sl c) (sS := csem s) (sem := csem (rk c))
    (κ₁ := K (c, s)) (κ₂ := K (t, rk c))
    (r₁ := 0) (r₂ := 0) (d₁ := 0) (d₂ := 0) (fd := fd) (fs := xbuf m c t) (q := fullShare)
    hds hdr () () NX rfl
    ((amount_dma m c s hs0 0 0).trans hsamt)
    ((amount_dma m t (rk c) hr0 0 0).trans (dmaAmt_recv c))
    O rfl (W := W) hps (hpr fd)) $$ [Hx Hs HO Ht Ht']
  · isplitr; · iapply (inv_of m K c s); iexact HR
    isplitr; · iapply (inv_of m K t (rk c)); iexact HR
    isplitl [Hx]; · unfold xpt; iexact Hx
    isplitl [Hs]; · iexact Hs
    isplitl [HO]; · iexact HO
    isplitl [Ht]; · iexact Ht
    isplitr; · iapply (mark_of m K c s); iexact HR
    isplitl [Ht']; · iexact Ht'
    iapply (mark_of m K t (rk c)); iexact HR
  iintro ⟨Hc, HO⟩
  iapply Hk
  isplitl [Hc]; · iexact Hc
  iexists W; iexact HO

/-- The copy to the device `d + 1` steps on (`d` = 0, 1, 2), as printed. -/
theorem wp_send (n : Dev nD) (d : ℕ) (he : d + 1 < 4) (t : Dev nD) (ht : t = pd c (d + 1)) (hn : n = t)
    {src : Memref sig .tc .hbm S1024x1024 .f32} (hsrc' : src = xB t)
    {dst : Memref sig (Dev.tc n : Thread nD τ).2.kind .vmem S1024x1024 .f32} (hdst' : dst = sl c)
    {qs qr : DmaSem sig} (hqs : qs = ⟨(sk d he).val, (sk d he).isLt⟩) (hqr : qr = ⟨(rk c).val, (rk c).isLt⟩)
    {hsc : dst.view.ref.isScScratch = false} {hsrc : src.view.WordExact} {hdst : dst.view.WordExact}
    {hsem : DmaTarget.Typed .hbm (.dma qr) (.remote (Dev.tc n : Thread nD τ) dst (.dma qs) hsc)}
    {α : Type} {Q : α → sProp 𝕄} {k : PUnit → Prog (TpuEff nD τ sig (Elt F) Λ₀ .tc) α}
    (O : CellTallies nD τ sig Unit) :
    iprop(records m K ∗ xpt m c t ∗ (∃ X, slo t c X) ∗ ow c (O + tallyAt (kc t (rk c)) () NX)
        ∗ dutyTok ER (kc c (sk d he)) 0 0 ∗ dutyTok ER (kc t (rk c)) 0 0)
      ⊢ iprop(((cred (tallyAt (kc c (sk d he)) () NX) ∗ ow c O)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma qs) hsc) (.dma qr) hsrc hdst hsem) k) Q) := by
  subst hn hsrc' hqs hqr
  cases hdst'
  exact wp_send_to m K c n (ht ▸ pd_ne c ⟨d + 1, he⟩ (fun h => by cases h)) (sk d he) (fun h => by cases h)
    (send_on c d he) (send_amt d he) (ht ▸ send_pay m c d he) O

/-- A copy into a comm slot of its own: `k` names the counter, which hands both pieces over. -/
theorem wp_own_to (s : Fin 11) (hs0 : s ≠ 0) (hson : dmaOn c s.val 0 = true) (hsamt : dmaAmt s.val = NX)
    (hspay : dmaPay m c s.val 0 = iprop(slo c c (xrow m c c) ∗ xpt m c c))
    {hsrc : (xB c).view.WordExact} {hdst : (sl c).view.WordExact}
    {hsem : DmaTarget.Typed (nD := nD) (τ := τ) (sig := sig) (p := Proc.tc) .hbm (csem s) (.here (sl c))}
    {α : Type} {Q : α → sProp 𝕄} {k : PUnit → Prog (TpuEff nD τ sig (Elt F) Λ₀ .tc) α} :
    iprop(records m K ∗ xpt m c c ∗ (∃ X, slo c c X) ∗ dutyTok ER (kc c s) 0 0)
      ⊢ iprop((cred (tallyAt (kc c s) () NX) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (xB c) (.here (sl c)) (csem s) hsrc hdst hsem) k) Q) := by
  have hds : (0 : Dev nD) ∈ (sched (F := F) m).duties (kc c s) 0 := by
    rw [duties_dma m c s hs0 0 hson]; exact Finset.mem_singleton_self _
  have hp (fd : Buf (Elt F) ((sl c).view.loc (c : Thread nD τ))) :
      iprop(((sl c).view.loc (c : Thread nD τ) ↦[(sl c).view.set]{fullShare}
        (sl c).view.write (Elt F) fd ((xB c).view.read (Elt F) (xbuf m c c)) Finset.univ)
        ∗ ((xB c).view.loc (c : Thread nD τ) ↦[(xB c).view.set]{fullShare} xbuf m c c))
      ⊢ ((sched m).payload (kc c s) 0 0 : sProp 𝕄) := by
    rw [payload_dma m _ s hs0, hspay]
    exact sep_mono_left (slo_landed m c _ _ _ fd)
  iintro ⟨#HR, Hx, ⟨%X, Hs⟩, Ht⟩ Hk
  unfold slo owns
  icases Hs with ⟨%fd, %hfd, Hs⟩
  iapply (Rounds.wp_copy_pointsTo 𝒱₀ ER (sched m) (c : Thread nD τ) none (src := xB c) (dst := sl c) (sem := csem s)
    (κ := K (c, s)) (r := 0) (d := 0) (fd := fd) (fs := xbuf m c c) (q := fullShare)
    hds () NX (sl_amount c s hs0) ((amount_dma m c s hs0 0 0).trans hsamt) (hp fd)) $$ [Hx Hs Ht]
  · isplitr; · iapply (inv_of m K c s); iexact HR
    isplitl [Hx]; · unfold xpt; iexact Hx
    isplitl [Hs]; · iexact Hs
    isplitl [Ht]; · iexact Ht
    iapply (mark_of m K c s); iexact HR
  iexact Hk

/-- The own copy, as printed: comm slot `c` gets row block `c` of `x`. -/
theorem wp_own {src : Memref sig .tc .hbm S1024x1024 .f32} (hsrc' : src = xB c)
    {dst : Memref sig .tc .vmem S1024x1024 .f32} (hdst' : dst = sl c)
    {q : DmaSem sig} (hq : q = ⟨(10 : Fin 11).val, (10 : Fin 11).isLt⟩)
    {hsrc : src.view.WordExact} {hdst : dst.view.WordExact} {hsem : DmaTarget.Typed (nD := nD) (τ := τ) (sig := sig) (p := Proc.tc) .hbm (.dma q) (.here dst)}
    {α : Type} {Q : α → sProp 𝕄} {k : PUnit → Prog (TpuEff nD τ sig (Elt F) Λ₀ .tc) α} :
    iprop(records m K ∗ xpt m c c ∗ (∃ X, slo c c X) ∗ dutyTok ER (kc c 10) 0 0)
      ⊢ iprop((cred (tallyAt (kc c 10) () NX) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.here dst) (.dma q) hsrc hdst hsem) k) Q) := by
  subst hsrc' hdst' hq
  exact wp_own_to m K c 10 (by decide) rfl rfl rfl

/-- The index of the counter of `w` buffer `b`. -/
abbrev wk (b : Fin 2) : Fin 11 := ⟨b.val + 8, by omega⟩

/-- A `w` buffer's counter has a landing at rounds 0 and 1. -/
theorem dmaOn_w (b : Fin 2) (r : ℕ) (hr : r < 2) : dmaOn c (wk b).val r = true := by
  fin_cases b <;> exact decide_eq_true hr
/-- Each is worth a block of `w`. -/
theorem dmaAmt_w (b : Fin 2) : dmaAmt (wk b).val = NW := by fin_cases b <;> rfl
omit [FloatOps F] in
/-- Each hands over the buffer with its row block of `w`, and that row block. -/
theorem dmaPay_w (b : Fin 2) (r : ℕ) :
    dmaPay m c (wk b).val r = iprop(wbo c b (wrow m c (pd c (wd b r))) ∗ wpt m c (pd c (wd b r))) := by
  fin_cases b <;> rfl

/-- A copy of row block `t` of `w` into `w` buffer `b`, on counter `s` at round `r`. -/
theorem wp_wcopy_to (b : Fin 2) (t : Dev nD) (s : Fin 11) (r : ℕ) (hs0 : s ≠ 0) (hson : dmaOn c s.val r = true) (hsamt : dmaAmt s.val = NW)
    (hspay : dmaPay m c s.val r = iprop(wbo c b (wrow m c t) ∗ wpt m c t))
    {hsrc : (wB t).view.WordExact} {hdst : (wb b).view.WordExact}
    {hsem : DmaTarget.Typed (nD := nD) (τ := τ) (sig := sig) (p := Proc.tc) .hbm (csem s) (.here (wb b))}
    {α : Type} {Q : α → sProp 𝕄} {k : PUnit → Prog (TpuEff nD τ sig (Elt F) Λ₀ .tc) α} :
    iprop(records m K ∗ wpt m c t ∗ (∃ X, wbo c b X) ∗ dutyTok ER (kc c s) r 0 ∗ reached ER (kc c s) r)
      ⊢ iprop((cred (tallyAt (kc c s) () NW) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (wB t) (.here (wb b)) (csem s) hsrc hdst hsem) k) Q) := by
  have hds : (0 : Dev nD) ∈ (sched (F := F) m).duties (kc c s) r := by
    rw [duties_dma m c s hs0 r hson]; exact Finset.mem_singleton_self _
  have hp (fd : Buf (Elt F) ((wb b).view.loc (c : Thread nD τ))) :
      iprop(((wb b).view.loc (c : Thread nD τ) ↦[(wb b).view.set]{fullShare}
        (wb b).view.write (Elt F) fd ((wB t).view.read (Elt F) (wbuf m c t)) Finset.univ)
        ∗ ((wB t).view.loc (c : Thread nD τ) ↦[(wB t).view.set]{fullShare} wbuf m c t))
      ⊢ ((sched m).payload (kc c s) r 0 : sProp 𝕄) := by
    rw [payload_dma m _ s hs0, hspay]
    exact sep_mono_left (wbo_landed m c b t fd)
  iintro ⟨#HR, Hx, ⟨%X, Hs⟩, Ht, Hm⟩ Hk
  unfold wbo owns
  icases Hs with ⟨%fd, %hfd, Hs⟩
  iapply (Rounds.wp_copy_pointsTo 𝒱₀ ER (sched m) (c : Thread nD τ) none (src := wB t) (dst := wb b) (sem := csem s)
    (κ := K (c, s)) (r := r) (d := 0) (fd := fd) (fs := wbuf m c t) (q := fullShare)
    hds () NW (wb_amount b s hs0) ((amount_dma m c s hs0 r 0).trans hsamt) (hp fd)) $$ [Hx Hs Ht Hm]
  · isplitr; · iapply (inv_of m K c s); iexact HR
    isplitl [Hx]; · unfold wpt; iexact Hx
    isplitl [Hs]; · iexact Hs
    isplitl [Ht]; · iexact Ht
    iexact Hm
  iexact Hk

/-- The copy of round `r` into `w` buffer `b`, as printed. -/
theorem wp_wcopy (b : Fin 2) (r : ℕ) (hr : r < 2) (t : Dev nD) (ht : t = pd c (wd b r))
    {src : Memref sig .tc .hbm S1024x2048 .f32} (hsrc' : src = wB t)
    {dst : Memref sig .tc .vmem S1024x2048 .f32} (hdst' : dst = wb b)
    {q : DmaSem sig} (hq : q = ⟨(wk b).val, (wk b).isLt⟩)
    {hsrc : src.view.WordExact} {hdst : dst.view.WordExact} {hsem : DmaTarget.Typed (nD := nD) (τ := τ) (sig := sig) (p := Proc.tc) .hbm (.dma q) (.here dst)}
    {α : Type} {Q : α → sProp 𝕄} {k : PUnit → Prog (TpuEff nD τ sig (Elt F) Λ₀ .tc) α} :
    iprop(records m K ∗ wpt m c t ∗ (∃ X, wbo c b X) ∗ dutyTok ER (kc c (wk b)) r 0 ∗ reached ER (kc c (wk b)) r)
      ⊢ iprop((cred (tallyAt (kc c (wk b)) () NW) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.here dst) (.dma q) hsrc hdst hsem) k) Q) := by
  subst hsrc' hdst' hq
  exact wp_wcopy_to m K c b t (wk b) r (fun h => by cases h) (dmaOn_w c b r hr) (dmaAmt_w b) (ht ▸ dmaPay_w m c b r)

/-! ## DMA waits -/

/-- A wait for round `r` of DMA counter `k`, owing nothing. -/
theorem wp_wait (k : Fin 11) (hk : k ≠ 0) (r : ℕ) (hon : dmaOn c k.val r = true) (N : ℕ) (hN : dmaAmt k.val = N)
    {q : DmaSem sig} (hq : q = ⟨k.val, k.isLt⟩)
    {sp sp' : Space} {s s' : Shape} {e e' : EltTy} {src : Memref sig .tc sp' s' e'} {dst : Memref sig .tc sp s e}
    (hcr : dst.view.dmaCredit = N)
    {hsrc : src.view.WordExact} {hdst : dst.view.WordExact}
    {α : Type} {Q : α → sProp 𝕄} {kk : PUnit → Prog (TpuEff nD τ sig (Elt F) Λ₀ .tc) α} :
    iprop(records m K ∗ cred (tallyAt (kc c k) () N) ∗ ow c 0 ∗ atPos ER (kc c k) r ∅ 0)
      ⊢ iprop(((ow c 0 ∗ atPos ER (kc c k) (r + 1) ∅ 0 ∗ reached ER (kc c k) (r + 1) ∗ dmaPay m c k.val r)
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.waitDma2 q src dst hsrc hdst) kk) Q) := by
  subst hq hcr
  iintro ⟨#HR, Hc, HO, Hat⟩ Hk
  unfold ow
  icases HO with ⟨%W, HO⟩
  have hsm : csem k = .dma ⟨k.val, k.isLt⟩ := by
    rcases k with ⟨_ | n, hn⟩
    · exact absurd rfl hk
    · rfl
  have hcell : ((c : Thread nD τ), SemLoc.dma (⟨k.val, k.isLt⟩ : DmaSem sig)) = kc c k := by rw [← hsm]
  iapply (Rounds.wp_wait_rest_token 𝒱₀ ER (sched m) (c : Thread nD τ) none (κ := K (c, k)) (sm := .dma ⟨k.val, k.isLt⟩)
      (wpE_waitDma2_eq 𝒱₀ (c : Thread nD τ) none Set.univ) (Set.mem_univ _) () (O := 0) (W := W) (R := r) (m := 0) (T := ∅)
      (by rw [Nat.zero_add, hcell, expect_dma m c k hk r hon, hN])) $$ [Hc HO Hat]
  · rw [hcell]
    isplitr; · iapply (inv_of m K c k); iexact HR
    isplitl [Hc]; · iexact Hc
    isplitl [HO]; · iexact HO
    isplitr; · rw [MayWait_zero]; iempintro
    iexact Hat
  rw [hcell]
  iintro ⟨HO, Hat, Hm, Hpay⟩
  iapply Hk
  isplitl [HO]; · iexists _; iexact HO
  isplitl [Hat]; · iexact Hat
  isplitl [Hm]; · iexact Hm
  iapply (Entails.of_eq (rest_dma m c k hk r hon)) $$ Hpay

/-! ## Loads of a slot -/

omit [FloatOps F] in
/-- A load of comm slot `j` stays within the slot. -/
theorem sl_sub (j : Dev nD) : cM.view.setOn (slR j).toLoadRect.set ⊆ (sl j).view.set := by
  rw [Memref.set_view_squeeze]
  exact subset_of_eq (View.set_slice _ _).symm

omit [FloatOps F] in
/-- A load of `w` buffer `b` stays within the buffer. -/
theorem wb_sub (b : Fin 2) : bM.view.setOn (wbR b).toLoadRect.set ⊆ (wb b).view.set := by
  rw [Memref.set_view_squeeze]
  exact subset_of_eq (View.set_slice _ _).symm

/-- A load of comm slot `j`, which holds `X`: what is read, without its first axis, is `X`. -/
theorem wp_load_sl (j : Dev nD) (X : S1024x1024.Idx → Elt F .f32) {off : Fin 3 → ℕ} {p : ∀ a, off a + S1x1024x1024.size a ≤ S4x1024x1024.size a}
    (h : off = ![j.val, 0, 0]) {hl : cM.view.LoadsAt (Rect.unit (s := S4x1024x1024) off S1x1024x1024.size p).toLoadRect}
    {α : Type} {Q : α → sProp 𝕄} {k : (S1x1024x1024.Idx → Elt F .f32) → Prog (TpuEff nD τ sig (Elt F) Λ₀ .tc) α} :
    slo c j X
      ⊢ iprop((∀ v : S1x1024x1024.Idx → Elt F .f32, ⌜shapeCast S1024x1024 v shapeCasts_S1x1024x1024_S1024x1024 = X⌝ -∗ slo c j X
            -∗ wp frame (wpE (defs₀ (F := F)) 𝒱₀ (c : Thread nD τ) none) Set.univ (k v) Q)
          -∗ wp frame (wpE (defs₀ (F := F)) 𝒱₀ (c : Thread nD τ) none) Set.univ
              (.op (.load cM (Rect.unit (s := S4x1024x1024) off S1x1024x1024.size p).toLoadRect hl) k) Q) := by
  subst h
  unfold slo owns
  iintro ⟨%f, %hf, Hs⟩ Hk
  iapply (wp_load 𝒱₀ (c : Thread nD τ) none Set.univ (m := cM) (r := (slR j).toLoadRect) (S := (sl j).view.set) (q := fullShare) (f := f) (sl_sub j)) $$ Hs
  iintro Hs
  ihave Hk := Hk $$ %(cM.view.readAt (Elt F) (slR j).toLoadRect f) %(show _ = X from hf)
  iapply Hk
  iexists f
  isplitr; · (ipureintro; exact hf)
  iexact Hs

/-- A load of `w` buffer `b`, likewise. -/
theorem wp_load_wb (b : Fin 2) (X : S1024x2048.Idx → Elt F .f32) {off : Fin 3 → ℕ} {p : ∀ a, off a + S1x1024x2048.size a ≤ S2x1024x2048.size a}
    (h : off = ![b.val, 0, 0]) {hl : bM.view.LoadsAt (Rect.unit (s := S2x1024x2048) off S1x1024x2048.size p).toLoadRect}
    {α : Type} {Q : α → sProp 𝕄} {k : (S1x1024x2048.Idx → Elt F .f32) → Prog (TpuEff nD τ sig (Elt F) Λ₀ .tc) α} :
    wbo c b X
      ⊢ iprop((∀ v : S1x1024x2048.Idx → Elt F .f32, ⌜shapeCast S1024x2048 v shapeCasts_S1x1024x2048_S1024x2048 = X⌝ -∗ wbo c b X
            -∗ wp frame (wpE (defs₀ (F := F)) 𝒱₀ (c : Thread nD τ) none) Set.univ (k v) Q)
          -∗ wp frame (wpE (defs₀ (F := F)) 𝒱₀ (c : Thread nD τ) none) Set.univ
              (.op (.load bM (Rect.unit (s := S2x1024x2048) off S1x1024x2048.size p).toLoadRect hl) k) Q) := by
  subst h
  unfold wbo owns
  iintro ⟨%f, %hf, Hs⟩ Hk
  iapply (wp_load 𝒱₀ (c : Thread nD τ) none Set.univ (m := bM) (r := (wbR b).toLoadRect) (S := (wb b).view.set) (q := fullShare) (f := f) (wb_sub b)) $$ Hs
  iintro Hs
  ihave Hk := Hk $$ %(bM.view.readAt (Elt F) (wbR b).toLoadRect f) %(show _ = X from hf)
  iapply Hk
  iexists f
  isplitr; · (ipureintro; exact hf)
  iexact Hs

/-! ## The staging buffer of the result -/

/-- The staging buffer holding `X`. -/
def oo (X : S1024x2048.Idx → Elt F .f32) : sProp 𝕄 := ((c : Thread nD τ).loc cc0_stg0_0) ↦{fullShare} X

abbrev oR : Rect S1024x2048 := Rect.unit (s := S1024x2048) ![0, 0] S1024x2048.size inb_S1024x2048_S1024x2048_0_0

omit [FloatOps F] in
/-- The printed offset of the staging buffer is zero on both axes. -/
theorem off_zero : (![0, 0] : Fin 2 → ℕ) = fun _ => 0 := funext fun a => by fin_cases a <;> rfl

/-- A load of the staging buffer reads what it holds. -/
theorem wp_load_o (X : S1024x2048.Idx → Elt F .f32) {hl : oM.view.LoadsAt oR.toLoadRect}
    {α : Type} {Q : α → sProp 𝕄} {k : (S1024x2048.Idx → Elt F .f32) → Prog (TpuEff nD τ sig (Elt F) Λ₀ .tc) α} :
    oo c X
      ⊢ iprop((oo c X -∗ wp frame (wpE (defs₀ (F := F)) 𝒱₀ (c : Thread nD τ) none) Set.univ (k X) Q)
          -∗ wp frame (wpE (defs₀ (F := F)) 𝒱₀ (c : Thread nD τ) none) Set.univ (.op (.load oM oR.toLoadRect hl) k) Q) := by
  unfold oo
  iintro Ho Hk
  iapply (wp_load 𝒱₀ (c : Thread nD τ) none Set.univ (m := oM) (Finset.subset_univ _)) $$ Ho; iintro Ho
  rw [show oM.view.readAt (Elt F) oR.toLoadRect X = X from Memref.readAt_unit_zero (Elt F) cc0_stg0_0 off_zero _ X]
  iapply Hk; iexact Ho

/-- A store into the staging buffer leaves it holding what was stored. -/
theorem wp_store_o (X Y : S1024x2048.Idx → Elt F .f32) {hx : (oM.access oR).Stores Finset.univ} {hm : (Finset.univ : Finset oR.shape.Idx) = Finset.univ ∨ ∀ a, oR.stride a = 1}
    {α : Type} {Q : α → sProp 𝕄} {k : PUnit → Prog (TpuEff nD τ sig (Elt F) Λ₀ .tc) α} :
    oo c X
      ⊢ iprop((oo c Y -∗ wp frame (wpE (defs₀ (F := F)) 𝒱₀ (c : Thread nD τ) none) Set.univ (k ⟨⟩) Q)
          -∗ wp frame (wpE (defs₀ (F := F)) 𝒱₀ (c : Thread nD τ) none) Set.univ (.op (.store oM oR Y Finset.univ hx hm) k) Q) := by
  unfold oo
  iintro Ho Hk
  iapply (wp_store 𝒱₀ (c : Thread nD τ) none Set.univ (m := oM) (r := oR) (Mk := Finset.univ) (Finset.subset_univ _)) $$ Ho; iintro Ho
  rw [show (oM.access oR : View sig .tc _ _ _).write (Elt F) X Y Finset.univ = Y from Memref.write_access_unit_zero_univ (Elt F) cc0_stg0_0 off_zero _ X Y]
  iapply Hk; iexact Ho

/-! ## Closing a cell -/

omit [FloatOps F] in
/-- A cell past its last round gives its counter back, at zero. -/
theorem cell_done (k : Fin 11) (R : ℕ) (h : ∀ r, R ≤ r → (sched (F := F) m).duties (kc c k) r = ∅) :
    iprop(records m K ∗ atPos ER (kc c k) R ∅ 0) ⊢ |={Set.univ}=> (semVal (kc c k) 0 : sProp 𝕄) := by
  iintro ⟨#HR, Hat⟩
  iapply (Rounds.cell_close ER (sched m) (Set.mem_univ (K (c, k))) (fun h => h) (R := R) h)
  isplitr; · iapply (inv_of m K c k); iexact HR
  iexact Hat

end Steps

end Cert.KernelIdeal.Run

end
-- ==== Proof.Parts.lean ====
/-
The kernel's body, one lemma per printed part, then the whole: from the device's positions, tokens, credits and pieces
to the same pieces back, every counter at zero and the result's staging buffer at its contents.
-/
module

public import proofs.«01_k».proof.Proof.Steps

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## Contents of the result -/

/-- One block product, onto zero. -/
def mm (X : S1024x1024.Idx → Elt F .f32) (W : S1024x2048.Idx → Elt F .f32) : S1024x2048.Idx → Elt F .f32 :=
  matmul dot_S1024x1024_S1024x2048_S1024x2048_1_0_0_1_n_n none (X : FVec F S1024x1024 .f32) (W : FVec F S1024x2048 .f32)
    (constant S1024x2048 .f32 0x00000000#32)
/-- A sum carried on by one block product. -/
def plus (A B : S1024x2048.Idx → Elt F .f32) : S1024x2048.Idx → Elt F .f32 :=
  addf (shapeCast S1024x2048 (A : FVec F S1024x2048 .f32) shapeCasts_S1024x2048_S1024x2048) (B : FVec F S1024x2048 .f32)

section Body
variable (K : Dev nD × Fin 11 → ℕ) (c : Dev nD)

/-- The running sum on device `c` after its own block, and after those of the devices 1, 3 and 2 steps on. -/
def acc0 : S1024x2048.Idx → Elt F .f32 := mm (xrow m c c) (wrow m c (pd c 0))
def acc1 : S1024x2048.Idx → Elt F .f32 := plus (acc0 m c) (mm (xrow m (pd c 1) c) (wrow m c (pd c 1)))
def acc2 : S1024x2048.Idx → Elt F .f32 := plus (acc1 m c) (mm (xrow m (pd c 3) c) (wrow m c (pd c 3)))
def acc3 : S1024x2048.Idx → Elt F .f32 := plus (acc2 m c) (mm (xrow m (pd c 2) c) (wrow m c (pd c 2)))
/-- The result of device `c`. -/
def outAt : S1024x2048.Idx → Elt F .f32 := k0_pay1 (acc3 m c)

/-! ## The parts -/

omit [FloatOps F] in
/-- What a landing in `w` buffer `b` hands over at round `r`, its row block given by an equation. -/
theorem dmaPay_wt (b : Fin 2) (r : ℕ) (t : Dev nD) (ht : t = pd c (wd b r)) :
    dmaPay m c (wk b).val r = iprop(wbo c b (wrow m c t) ∗ wpt m c t) := by
  subst ht; exact dmaPay_w m c b r

omit [FloatOps F] in
/-- The whole of the barrier's round: a comm slot of each other device. -/
theorem rest_bar : bigSep ((sched (F := F) m).duties ((c : Thread nD τ), SemLoc.reg barS) 0 \ ∅) (fun d => (sched (F := F) m).payload ((c : Thread nD τ), SemLoc.reg barS) 0 d)
    = iprop((∃ X, slo (pd c 1) c X) ∗ (∃ X, slo (pd c 2) c X) ∗ (∃ X, slo (pd c 3) c X)) := by
  rw [Finset.sdiff_empty, show (sched (F := F) m).duties ((c : Thread nD τ), SemLoc.reg barS) 0 = _ from duties_bar m c, bigSep_eq_bigSepL_of_eq [pd c 1, pd c 2, pd c 3] (by revert c; decide) (by revert c; decide)]
  rfl

/-- A signal to the barrier of another device `t`, with the comm slot that `t` writes. -/
theorem wp_tell (n t : Dev nD) (ht : t ≠ c) (hn : n = t)
    {α : Type} {Q : α → sProp 𝕄} {k : PUnit → Prog (TpuEff nD τ sig (Elt F) Λ₀ .tc) α} {k' : ℕ} (hk : k' = 1)
    (O : CellTallies nD τ sig Unit) :
    iprop(records m K ∗ ow c (O + tallyAt (kc t 0) () 1) ∗ dutyTok ER (kc t 0) 0 c ∗ (∃ X, slo c t X))
      ⊢ iprop((ow c O -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (Dev.tc n : Thread nD τ) barS k') k) Q) := by
  subst hn hk
  unfold ow
  iintro ⟨#HR, ⟨%W, HO⟩, Ht, Hs⟩ Hk
  iapply (Rounds.wp_signal 𝒱₀ ER (sched m) (c : Thread nD τ) none (dst := (n : Thread nD τ)) (sem := barS) (κ := K (n, 0)) (r := 0) (d := c)
    (show c ∈ (sched (F := F) m).duties (kc n 0) 0 by rw [duties_bar]; exact Finset.mem_erase.mpr ⟨ht.symm, Finset.mem_univ _⟩)
    (amount_bar m n c) () O rfl (W := W)) $$ [HO Ht Hs]
  · isplitr; · iapply (inv_of m K n 0); iexact HR
    isplitl [HO]; · iexact HO
    isplitl [Ht]; · iexact Ht
    isplitl [Hs]; · iapply (show iprop(∃ X, slo c n X) ⊢ (sched m).payload ((n : Thread nD τ), SemLoc.reg barS) 0 c from Entails.of_eq (payload_bar m n c).symm); iexact Hs
    iapply (mark_of m K n 0); iexact HR
  iintro HO
  iapply Hk
  iexists W; iexact HO

/-- The barrier wait: a comm slot of each other device. -/
theorem wp_met {α : Type} {Q : α → sProp 𝕄} {k : PUnit → Prog (TpuEff nD τ sig (Elt F) Λ₀ .tc) α} {k' : ℕ} (hk : k' = 3) :
    iprop(records m K ∗ levAts L lv ∗ cred (tallyAt (kc c 0) () 3) ∗ ow c (OS c) ∗ atPos ER (kc c 0) 0 ∅ 0)
      ⊢ iprop(((ow c (OS c) ∗ atPos ER (kc c 0) 1 ∅ 0 ∗ (∃ X, slo (pd c 1) c X) ∗ (∃ X, slo (pd c 2) c X) ∗ (∃ X, slo (pd c 3) c X))
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS k') k) Q) := by
  subst hk
  unfold ow
  iintro ⟨#HR, #HL, Hc, ⟨%W, HO⟩, Hat⟩ Hk
  iapply (Rounds.wp_wait_rest_token 𝒱₀ ER (sched m) (c : Thread nD τ) none (κ := K (c, 0)) (sm := .reg barS)
      (wpE_semWait_eq 𝒱₀ (c : Thread nD τ) none Set.univ) (Set.mem_univ _) () (O := OS c) (W := W) (R := 0) (m := 0) (T := ∅)
      (show 0 + 3 = (sched (F := F) m).expect (kc c 0) 0 by rw [expect_bar])) $$ [Hc HO Hat]
  · isplitr; · iapply (inv_of m K c 0); iexact HR
    isplitl [Hc]; · iexact Hc
    isplitl [HO]; · iexact HO
    isplitr; · iapply (mayWait_bar (F := F) c); iexact HL
    iexact Hat
  iintro ⟨HO, Hat, -, Hpay⟩
  ihave Hp := (Entails.of_eq (rest_bar m c)) $$ Hpay
  iapply Hk
  isplitl [HO]; · iexists _; iexact HO
  isplitl [Hat]; · iexact Hat
  iexact Hp

/-- Part 1: the handshake. -/
theorem wp_part1 {α : Type} {Q : α → sProp 𝕄} {k : (Σ' (_ : Dev nD), BitVec 32) → Prog (TpuEff nD τ sig (Elt F) Λ₀ .tc) α} :
    iprop(records m K ∗ levAts L lv ∗ ow c (O₀ c) ∗ cred (tallyAt (kc c 0) () 3) ∗ atPos ER (kc c 0) 0 ∅ 0 ∗ dutyTok ER (kc (pd c 1) 0) 0 c ∗ dutyTok ER (kc (pd c 2) 0) 0 c ∗ dutyTok ER (kc (pd c 3) 0) 0 c ∗ (∃ X, slo (c) (pd c 1) X) ∗ (∃ X, slo (c) (pd c 2) X) ∗ (∃ X, slo (c) (pd c 3) X))
      ⊢ iprop((∀ v : BitVec 32, iprop(ow c (OS c) ∗ atPos ER (kc c 0) 1 ∅ 0 ∗ (∃ X, slo (pd c 1) (c) X) ∗ (∃ X, slo (pd c 2) (c) X) ∗ (∃ X, slo (pd c 3) (c) X)) -∗ wp frame (wpE (defs₀ (F := F)) 𝒱₀ (c : Thread nD τ) none) Set.univ (k ⟨c, v⟩) Q)
          -∗ wp frame (wpE (defs₀ (F := F)) 𝒱₀ (c : Thread nD τ) none) Set.univ (k0_part1 xM (Memref.isWhole_whole _) wM (Memref.isWhole_whole _) oM (Memref.isWhole_whole _) cM (Memref.isWhole_whole _) bM (Memref.isWhole_whole _) cc0_scratch2 cc0_scratch3 cc0_scratch4 cc0_scratch5 >>= k) Q) := by
  rw [k0_part1_eq_skeleton]; unfold k0_part1_skel
  simp only [semSignalWord, semWaitWord, Prog.lift, Prog.bind_op, Prog.bind_ret, Prog.pure_eq_ret, wp_deviceId]
  iintro ⟨#HR, #HL, HO, Hc, Hat, H1, H2, H3, S1, S2, S3⟩ Hk
  iapply (wp_tell m K c _ (pd c 1) (pd_ne c 1 (by decide)) (Fin.ext (k0_dev1_eq c)) (by decide) (OS c + tallyAt (kc (pd c 3) 0) () 1 + tallyAt (kc (pd c 2) 0) () 1)) $$ [HO H1 S1]
  · isplitr; · iexact HR
    isplitl [HO]; · iexact HO
    isplitl [H1]; · iexact H1
    iexact S1
  iintro HO
  iapply (wp_tell m K c _ (pd c 2) (pd_ne c 2 (by decide)) (Fin.ext (k0_dev2_eq c)) (by decide) (OS c + tallyAt (kc (pd c 3) 0) () 1)) $$ [HO H2 S2]
  · isplitr; · iexact HR
    isplitl [HO]; · iexact HO
    isplitl [H2]; · iexact H2
    iexact S2
  iintro HO
  iapply (wp_tell m K c _ (pd c 3) (pd_ne c 3 (by decide)) (Fin.ext (k0_dev3_eq c)) (by decide) (OS c)) $$ [HO H3 S3]
  · isplitr; · iexact HR
    isplitl [HO]; · iexact HO
    isplitl [H3]; · iexact H3
    iexact S3
  iintro HO
  iapply (wp_met m K c (by decide)) $$ [Hc HO Hat]
  · isplitr; · iexact HR
    isplitr; · iexact HL
    isplitl [Hc]; · iexact Hc
    isplitl [HO]; · iexact HO
    iexact Hat
  iintro ⟨HO, Hat, S1, S2, S3⟩
  iapply Hk
  isplitl [HO]; · iexact HO
  isplitl [Hat]; · iexact Hat
  isplitl [S1]; · iexact S1
  isplitl [S2]; · iexact S2
  iexact S3

/-- Part 2: the three copies to the other devices and the own copy. -/
theorem wp_part2 (v2 : BitVec 32) {α : Type} {Q : α → sProp 𝕄} {k : (Σ' (_ : BitVec 32), BitVec 32) → Prog (TpuEff nD τ sig (Elt F) Λ₀ .tc) α} :
    iprop(records m K ∗ ow c (OS c) ∗ xpt m c c ∗ xpt m c (pd c 1) ∗ xpt m c (pd c 2) ∗ xpt m c (pd c 3) ∗ (∃ X, slo (c) (c) X) ∗ (∃ X, slo (pd c 1) (c) X) ∗ (∃ X, slo (pd c 2) (c) X) ∗ (∃ X, slo (pd c 3) (c) X) ∗ dutyTok ER (kc c 1) 0 0 ∗ dutyTok ER (kc c 2) 0 0 ∗ dutyTok ER (kc c 3) 0 0 ∗ dutyTok ER (kc c 10) 0 0 ∗ dutyTok ER (kc (pd c 1) (rk c)) 0 0 ∗ dutyTok ER (kc (pd c 2) (rk c)) 0 0 ∗ dutyTok ER (kc (pd c 3) (rk c)) 0 0)
      ⊢ iprop((∀ v, iprop(ow c 0 ∗ cred (tallyAt (kc c 1) () NX) ∗ cred (tallyAt (kc c 2) () NX) ∗ cred (tallyAt (kc c 3) () NX) ∗ cred (tallyAt (kc c 10) () NX)) -∗ wp frame (wpE (defs₀ (F := F)) 𝒱₀ (c : Thread nD τ) none) Set.univ (k v) Q)
          -∗ wp frame (wpE (defs₀ (F := F)) 𝒱₀ (c : Thread nD τ) none) Set.univ (k0_part2 xM (Memref.isWhole_whole _) wM (Memref.isWhole_whole _) oM (Memref.isWhole_whole _) cM (Memref.isWhole_whole _) bM (Memref.isWhole_whole _) cc0_scratch2 cc0_scratch3 cc0_scratch4 cc0_scratch5 c v2 >>= k) Q) := by
  rw [k0_part2_eq_skeleton]; unfold k0_part2_skel
  simp only [semSignalWord, semWaitWord, Prog.lift, Prog.bind_op, Prog.bind_ret, Prog.pure_eq_ret, wp_deviceId]
  iintro ⟨#HR, HO, X0, X1, X2, X3, S0, S1, S2, S3, T1, T2, T3, T0, R1, R2, R3⟩ Hk
  unfold OS
  iapply (wp_send m K c _ 0 (by decide) (pd c 1) rfl (Fin.ext (k0_dev4_eq c)) (xB_of _ _ (k0_off3_eq c 0) _ _) (sl_of _ _ (k0_off2_eq c) _ _ _)
    sendS_eq0 (recvS_of _ _ (k0_off1_eq c) _) (tallyAt (kc (pd c 3) (rk c)) () NX + tallyAt (kc (pd c 2) (rk c)) () NX)) $$ [X1 S1 HO T1 R1]
  · isplitr; · iexact HR
    isplitl [X1]; · iexact X1
    isplitl [S1]; · iexact S1
    isplitl [HO]; · iexact HO
    isplitl [T1]; · iexact T1
    iexact R1
  iintro ⟨C1, HO⟩
  iapply (wp_send m K c _ 1 (by decide) (pd c 2) rfl (Fin.ext (k0_dev5_eq c)) (xB_of _ _ (k0_off3_eq c 1) _ _) (sl_of _ _ (k0_off2_eq c) _ _ _)
    sendS_eq1 (recvS_of _ _ (k0_off1_eq c) _) (tallyAt (kc (pd c 3) (rk c)) () NX)) $$ [X2 S2 HO T2 R2]
  · isplitr; · iexact HR
    isplitl [X2]; · iexact X2
    isplitl [S2]; · iexact S2
    isplitl [HO]; · iexact HO
    isplitl [T2]; · iexact T2
    iexact R2
  iintro ⟨C2, HO⟩
  rw [← zero_add (tallyAt (kc (pd c 3) (rk c)) () NX)]
  iapply (wp_send m K c _ 2 (by decide) (pd c 3) rfl (Fin.ext (k0_dev6_eq c)) (xB_of _ _ (k0_off3_eq c 2) _ _) (sl_of _ _ (k0_off2_eq c) _ _ _)
    sendS_eq2 (recvS_of _ _ (k0_off1_eq c) _) (0)) $$ [X3 S3 HO T3 R3]
  · isplitr; · iexact HR
    isplitl [X3]; · iexact X3
    isplitl [S3]; · iexact S3
    isplitl [HO]; · iexact HO
    isplitl [T3]; · iexact T3
    iexact R3
  iintro ⟨C3, HO⟩
  iapply (wp_own m K c (xB_of _ _ (k0_off4_eq c) _ _) (sl_of _ _ (k0_off2_eq c) _ _ _) xS_eq) $$ [X0 S0 T0]
  · isplitr; · iexact HR
    isplitl [X0]; · iexact X0
    isplitl [S0]; · iexact S0
    iexact T0
  iintro C0
  iapply Hk
  isplitl [HO]; · iexact HO
  isplitl [C1]; · iexact C1
  isplitl [C2]; · iexact C2
  isplitl [C3]; · iexact C3
  iexact C0

/-- What a DMA wait on a comm slot asks for; on a row block of `x`. -/
theorem sl_credit {j : Dev nD} (b : Memref sig .tc .vmem S1024x1024 .f32) (h : b = sl j) : b.view.dmaCredit = NX := by subst h; rfl
/-- The same for a row block of `x`. -/
theorem xB_credit {j : Dev nD} (b : Memref sig .tc .hbm S1024x1024 .f32) (h : b = xB j) : b.view.dmaCredit = NX := by subst h; rfl

/-- Part 3: the first two copies of `w`; the own blocks are in place and read. -/
theorem wp_part3 (v2 v57 v58 : BitVec 32) {α : Type} {Q : α → sProp 𝕄} {k : (Σ' (_ : BitVec 32) (_ : BitVec 32) (_ : FVec F S1024x1024 .f32), Vec F S1x1024x2048 .f32) → Prog (TpuEff nD τ sig (Elt F) Λ₀ .tc) α} :
    iprop(records m K ∗ ow c 0 ∗ wpt m c (pd c 0) ∗ wpt m c (pd c 1) ∗ (∃ X, wbo c 0 X) ∗ (∃ X, wbo c 1 X) ∗ dutyTok ER (kc c (wk 0)) 0 0 ∗ dutyTok ER (kc c (wk 1)) 0 0 ∗ cred (tallyAt (kc c 10) () NX) ∗ atPos ER (kc c 10) 0 ∅ 0 ∗ atPos ER (kc c (wk 0)) 0 ∅ 0)
      ⊢ iprop((∀ (a b : BitVec 32) (v85 : Vec F S1x1024x2048 .f32), ⌜shapeCast S1024x2048 v85 shapeCasts_S1x1024x2048_S1024x2048 = wrow m c (pd c 0)⌝ -∗ iprop(ow c 0 ∗ slo c c (xrow m c c) ∗ xpt m c c ∗ atPos ER (kc c 10) 1 ∅ 0 ∗ atPos ER (kc c (wk 0)) 1 ∅ 0 ∗ reached ER (kc c (wk 0)) 1 ∗ wbo c 0 (wrow m c (pd c 0)) ∗ wpt m c (pd c 0) ∗ cred (tallyAt (kc c (wk 1)) () NW)) -∗ wp frame (wpE (defs₀ (F := F)) 𝒱₀ (c : Thread nD τ) none) Set.univ (k ⟨a, b, xrow m c c, v85⟩) Q)
          -∗ wp frame (wpE (defs₀ (F := F)) 𝒱₀ (c : Thread nD τ) none) Set.univ (k0_part3 xM (Memref.isWhole_whole _) wM (Memref.isWhole_whole _) oM (Memref.isWhole_whole _) cM (Memref.isWhole_whole _) bM (Memref.isWhole_whole _) cc0_scratch2 cc0_scratch3 cc0_scratch4 cc0_scratch5 c v2 v57 v58 >>= k) Q) := by
  rw [k0_part3_eq_skeleton]; unfold k0_part3_skel
  simp only [semSignalWord, semWaitWord, Prog.lift, Prog.bind_op, Prog.bind_ret, Prog.pure_eq_ret, wp_deviceId]
  iintro ⟨#HR, HO, W0, W1, B0, B1, T8, T9, C0, A10, A8⟩ Hk
  iapply (wp_wcopy m K c 0 0 (by decide) (pd c 0) rfl (wB_of _ _ ((k0_off5_eq c).trans (by rw [pd_zero])) _ _) rfl wS_eq0) $$ [W0 B0 T8]
  · isplitr; · iexact HR
    isplitl [W0]; · iexact W0
    isplitl [B0]; · iexact B0
    isplitl [T8]; · iexact T8
    iapply (mark_of m K c 8); iexact HR
  iintro C8
  iapply (wp_wcopy m K c 1 0 (by decide) (pd c 1) rfl (wB_of _ _ (k0_off6_eq c 0) _ _) rfl wS_eq1) $$ [W1 B1 T9]
  · isplitr; · iexact HR
    isplitl [W1]; · iexact W1
    isplitl [B1]; · iexact B1
    isplitl [T9]; · iexact T9
    iapply (mark_of m K c 9); iexact HR
  iintro C9
  iapply (wp_wait m K c 10 (by decide) 0 rfl NX rfl xS_eq (sl_credit _ (sl_of _ _ (k0_off2_eq c) _ _ _))) $$ [C0 HO A10]
  · isplitr; · iexact HR
    isplitl [C0]; · iexact C0
    isplitl [HO]; · iexact HO
    iexact A10
  rw [show dmaPay m c (10 : Fin 11).val 0 = iprop(slo c c (xrow m c c) ∗ xpt m c c) from rfl]
  iintro ⟨HO, A10, -, S0, X0⟩
  iapply (wp_wait m K c (wk 0) (by decide) 0 rfl NW rfl wS_eq0 (rfl : (wb 0).view.dmaCredit = NW)) $$ [C8 HO A8]
  · isplitr; · iexact HR
    isplitl [C8]; · iexact C8
    isplitl [HO]; · iexact HO
    iexact A8
  rw [dmaPay_wt m c 0 0 (pd c 0) rfl]
  iintro ⟨HO, A8, M8, B0, W0⟩
  iapply (wp_load_sl c c (xrow m c c) (k0_off7_eq c)) $$ S0
  iintro %v83 %h83 S0
  iapply (wp_load_wb c 0 (wrow m c (pd c 0)) (off := ![0, 0, 0]) rfl) $$ B0
  iintro %v85 %h85 B0
  rw [show k0_pay2 v83 = xrow m c c from h83]
  iapply Hk $$ %_ %_ %v85 %h85
  isplitl [HO]; · iexact HO
  isplitl [S0]; · iexact S0
  isplitl [X0]; · iexact X0
  isplitl [A10]; · iexact A10
  isplitl [A8]; · iexact A8
  isplitl [M8]; · iexact M8
  isplitl [B0]; · iexact B0
  isplitl [W0]; · iexact W0
  iexact C9

/-- Part 4: the own product is stored; the block from the device 1 step on is in place and read. -/
theorem wp_part4 (v57 v59 : BitVec 32) (X : S1024x2048.Idx → Elt F .f32) (v85 : Vec F S1x1024x2048 .f32)
    (h85 : shapeCast S1024x2048 v85 shapeCasts_S1x1024x2048_S1024x2048 = wrow m c (pd c 0))
    {α : Type} {Q : α → sProp 𝕄} {k : (Σ' (_ : FVec F S1024x2048 .f32) (_ : FVec F S1024x1024 .f32), Vec F S1x1024x2048 .f32) → Prog (TpuEff nD τ sig (Elt F) Λ₀ .tc) α} :
    iprop(records m K ∗ ow c 0 ∗ oo c X ∗ wpt m c (pd c 3) ∗ wbo c 0 (wrow m c (pd c 0)) ∗ dutyTok ER (kc c (wk 0)) 1 0 ∗ reached ER (kc c (wk 0)) 1 ∗ cred (tallyAt (kc c (rk (pd c 1))) () NX) ∗ atPos ER (kc c (rk (pd c 1))) 0 ∅ 0 ∗ cred (tallyAt (kc c (wk 1)) () NW) ∗ atPos ER (kc c (wk 1)) 0 ∅ 0)
      ⊢ iprop((∀ v113 : Vec F S1x1024x2048 .f32, ⌜shapeCast S1024x2048 v113 shapeCasts_S1x1024x2048_S1024x2048 = wrow m c (pd c 1)⌝ -∗ iprop(ow c 0 ∗ oo c (acc0 m c) ∗ cred (tallyAt (kc c (wk 0)) () NW) ∗ slo c (pd c 1) (xrow m (pd c 1) c) ∗ atPos ER (kc c (rk (pd c 1))) 1 ∅ 0 ∗ atPos ER (kc c (wk 1)) 1 ∅ 0 ∗ reached ER (kc c (wk 1)) 1 ∗ wbo c 1 (wrow m c (pd c 1)) ∗ wpt m c (pd c 1)) -∗ wp frame (wpE (defs₀ (F := F)) 𝒱₀ (c : Thread nD τ) none) Set.univ (k ⟨k0_pay4 (acc0 m c), xrow m (pd c 1) c, v113⟩) Q)
          -∗ wp frame (wpE (defs₀ (F := F)) 𝒱₀ (c : Thread nD τ) none) Set.univ (k0_part4 xM (Memref.isWhole_whole _) wM (Memref.isWhole_whole _) oM (Memref.isWhole_whole _) cM (Memref.isWhole_whole _) bM (Memref.isWhole_whole _) cc0_scratch2 cc0_scratch3 cc0_scratch4 cc0_scratch5 c v57 v59 (xrow m c c) v85 >>= k) Q) := by
  rw [k0_part4_eq_skeleton]; unfold k0_part4_skel
  simp only [semSignalWord, semWaitWord, Prog.lift, Prog.bind_op, Prog.bind_ret, Prog.pure_eq_ret, wp_deviceId]
  iintro ⟨#HR, HO, Ho, W3, B0, T8, M8, Cr, Ar, C9, A9⟩ Hk
  iapply (wp_load_o c X) $$ Ho
  iintro Ho
  iapply (wp_store_o c X) $$ Ho
  iintro Ho
  rw [show k0_pay3 (xrow m c c) v85 = acc0 m c from by
    show mm (xrow m c c) (shapeCast S1024x2048 v85 shapeCasts_S1x1024x2048_S1024x2048) = acc0 m c
    rw [h85]; rfl]
  iapply (wp_wcopy m K c 0 1 (by decide) (pd c 3) rfl (wB_of _ _ (k0_off6_eq c 2) _ _) rfl wS_eq0) $$ [W3 B0 T8 M8]
  · isplitr; · iexact HR
    isplitl [W3]; · iexact W3
    isplitl [B0]; · iexists _; iexact B0
    isplitl [T8]; · iexact T8
    iexact M8
  iintro C8
  iapply (wp_wait m K c (rk (pd c 1)) (fun h => by cases h) 0 (dmaOn_recv c (pd c 1) (pd_ne c 1 (by decide)).symm) NX (dmaAmt_recv _)
    (recvS_of _ _ (k0_off8_eq c 0) _) (sl_credit (j := pd c 1) _ (sl_of _ _ (k0_off9_eq c 0) _ _ _))) $$ [Cr HO Ar]
  · isplitr; · iexact HR
    isplitl [Cr]; · iexact Cr
    isplitl [HO]; · iexact HO
    iexact Ar
  rw [dmaPay_recv]
  iintro ⟨HO, Ar, -, S1⟩
  iapply (wp_wait m K c (wk 1) (by decide) 0 rfl NW rfl wS_eq1 (rfl : (wb 1).view.dmaCredit = NW)) $$ [C9 HO A9]
  · isplitr; · iexact HR
    isplitl [C9]; · iexact C9
    isplitl [HO]; · iexact HO
    iexact A9
  rw [dmaPay_wt m c 1 0 (pd c 1) rfl]
  iintro ⟨HO, A9, M9, B1, W1⟩
  iapply (wp_load_o c (acc0 m c)) $$ Ho
  iintro Ho
  iapply (wp_load_sl c (pd c 1) (xrow m (pd c 1) c) (k0_off10_eq c 0)) $$ S1
  iintro %v111 %h111 S1
  iapply (wp_load_wb c 1 (wrow m c (pd c 1)) (off := ![1, 0, 0]) rfl) $$ B1
  iintro %v113 %h113 B1
  rw [show k0_pay5 v111 = xrow m (pd c 1) c from h111]
  iapply Hk $$ %v113 %h113
  isplitl [HO]; · iexact HO
  isplitl [Ho]; · iexact Ho
  isplitl [C8]; · iexact C8
  isplitl [S1]; · iexact S1
  isplitl [Ar]; · iexact Ar
  isplitl [A9]; · iexact A9
  isplitl [M9]; · iexact M9
  isplitl [B1]; · iexact B1
  iexact W1

/-- Part 5: the second product is added; the block from the device 3 steps on is in place and read. -/
theorem wp_part5 (v59 v61 : BitVec 32) (v113 : Vec F S1x1024x2048 .f32)
    (h113 : shapeCast S1024x2048 v113 shapeCasts_S1x1024x2048_S1024x2048 = wrow m c (pd c 1))
    {α : Type} {Q : α → sProp 𝕄} {k : (Σ' (_ : FVec F S1024x2048 .f32), FVec F S1024x1024 .f32) → Prog (TpuEff nD τ sig (Elt F) Λ₀ .tc) α} :
    iprop(records m K ∗ ow c 0 ∗ oo c (acc0 m c) ∗ wpt m c (pd c 2) ∗ wbo c 1 (wrow m c (pd c 1)) ∗ dutyTok ER (kc c (wk 1)) 1 0 ∗ reached ER (kc c (wk 1)) 1 ∗ cred (tallyAt (kc c (rk (pd c 3))) () NX) ∗ atPos ER (kc c (rk (pd c 3))) 0 ∅ 0 ∗ cred (tallyAt (kc c (wk 0)) () NW) ∗ atPos ER (kc c (wk 0)) 1 ∅ 0)
      ⊢ iprop((iprop(ow c 0 ∗ oo c (acc1 m c) ∗ cred (tallyAt (kc c (wk 1)) () NW) ∗ slo c (pd c 3) (xrow m (pd c 3) c) ∗ atPos ER (kc c (rk (pd c 3))) 1 ∅ 0 ∗ atPos ER (kc c (wk 0)) 2 ∅ 0 ∗ wbo c 0 (wrow m c (pd c 3)) ∗ wpt m c (pd c 3)) -∗ wp frame (wpE (defs₀ (F := F)) 𝒱₀ (c : Thread nD τ) none) Set.univ (k ⟨k0_pay7 (acc1 m c), xrow m (pd c 3) c⟩) Q)
          -∗ wp frame (wpE (defs₀ (F := F)) 𝒱₀ (c : Thread nD τ) none) Set.univ (k0_part5 xM (Memref.isWhole_whole _) wM (Memref.isWhole_whole _) oM (Memref.isWhole_whole _) cM (Memref.isWhole_whole _) bM (Memref.isWhole_whole _) cc0_scratch2 cc0_scratch3 cc0_scratch4 cc0_scratch5 c v59 v61 (k0_pay4 (acc0 m c)) (xrow m (pd c 1) c) v113 >>= k) Q) := by
  rw [k0_part5_eq_skeleton]; unfold k0_part5_skel
  simp only [semSignalWord, semWaitWord, Prog.lift, Prog.bind_op, Prog.bind_ret, Prog.pure_eq_ret, wp_deviceId]
  iintro ⟨#HR, HO, Ho, W2, B1, T9, M9, Cr, Ar, C8, A8⟩ Hk
  iapply (wp_load_o c (acc0 m c)) $$ Ho
  iintro Ho
  iapply (wp_store_o c (acc0 m c)) $$ Ho
  iintro Ho
  rw [show k0_pay6 (k0_pay4 (acc0 m c)) (xrow m (pd c 1) c) v113 = acc1 m c from by
    show plus (acc0 m c) (mm (xrow m (pd c 1) c) (shapeCast S1024x2048 v113 shapeCasts_S1x1024x2048_S1024x2048)) = acc1 m c
    rw [h113]; rfl]
  iapply (wp_wcopy m K c 1 1 (by decide) (pd c 2) rfl (wB_of _ _ (k0_off6_eq c 1) _ _) rfl wS_eq1) $$ [W2 B1 T9 M9]
  · isplitr; · iexact HR
    isplitl [W2]; · iexact W2
    isplitl [B1]; · iexists _; iexact B1
    isplitl [T9]; · iexact T9
    iexact M9
  iintro C9
  iapply (wp_wait m K c (rk (pd c 3)) (fun h => by cases h) 0 (dmaOn_recv c (pd c 3) (pd_ne c 3 (by decide)).symm) NX (dmaAmt_recv _)
    (recvS_of _ _ (k0_off8_eq c 2) _) (sl_credit (j := pd c 3) _ (sl_of _ _ (k0_off9_eq c 2) _ _ _))) $$ [Cr HO Ar]
  · isplitr; · iexact HR
    isplitl [Cr]; · iexact Cr
    isplitl [HO]; · iexact HO
    iexact Ar
  rw [dmaPay_recv]
  iintro ⟨HO, Ar, -, S3⟩
  iapply (wp_wait m K c (wk 0) (by decide) 1 rfl NW rfl wS_eq0 (rfl : (wb 0).view.dmaCredit = NW)) $$ [C8 HO A8]
  · isplitr; · iexact HR
    isplitl [C8]; · iexact C8
    isplitl [HO]; · iexact HO
    iexact A8
  rw [dmaPay_wt m c 0 1 (pd c 3) rfl]
  iintro ⟨HO, A8, -, B0, W3⟩
  iapply (wp_load_o c (acc1 m c)) $$ Ho
  iintro Ho
  iapply (wp_load_sl c (pd c 3) (xrow m (pd c 3) c) (k0_off10_eq c 2)) $$ S3
  iintro %v140 %h140 S3
  rw [show k0_pay8 v140 = xrow m (pd c 3) c from h140]
  iapply Hk
  isplitl [HO]; · iexact HO
  isplitl [Ho]; · iexact Ho
  isplitl [C9]; · iexact C9
  isplitl [S3]; · iexact S3
  isplitl [Ar]; · iexact Ar
  isplitl [A8]; · iexact A8
  isplitl [B0]; · iexact B0
  iexact W3

/-- Part 6: the third product is added; the block from the device 2 steps on is in place, read and its product added. -/
theorem wp_part6 (v61 : BitVec 32) {α : Type} {Q : α → sProp 𝕄} {k : (Vec F S1024x2048 .f32) → Prog (TpuEff nD τ sig (Elt F) Λ₀ .tc) α} :
    iprop(records m K ∗ ow c 0 ∗ oo c (acc1 m c) ∗ wbo c 0 (wrow m c (pd c 3)) ∗ cred (tallyAt (kc c (rk (pd c 2))) () NX) ∗ atPos ER (kc c (rk (pd c 2))) 0 ∅ 0 ∗ cred (tallyAt (kc c (wk 1)) () NW) ∗ atPos ER (kc c (wk 1)) 1 ∅ 0)
      ⊢ iprop((iprop(ow c 0 ∗ oo c (acc3 m c) ∗ slo c (pd c 2) (xrow m (pd c 2) c) ∗ atPos ER (kc c (rk (pd c 2))) 1 ∅ 0 ∗ atPos ER (kc c (wk 1)) 2 ∅ 0 ∗ wbo c 0 (wrow m c (pd c 3)) ∗ wbo c 1 (wrow m c (pd c 2)) ∗ wpt m c (pd c 2)) -∗ wp frame (wpE (defs₀ (F := F)) 𝒱₀ (c : Thread nD τ) none) Set.univ (k (acc3 m c)) Q)
          -∗ wp frame (wpE (defs₀ (F := F)) 𝒱₀ (c : Thread nD τ) none) Set.univ (k0_part6 xM (Memref.isWhole_whole _) wM (Memref.isWhole_whole _) oM (Memref.isWhole_whole _) cM (Memref.isWhole_whole _) bM (Memref.isWhole_whole _) cc0_scratch2 cc0_scratch3 cc0_scratch4 cc0_scratch5 c v61 (k0_pay7 (acc1 m c)) (xrow m (pd c 3) c) >>= k) Q) := by
  rw [k0_part6_eq_skeleton]; unfold k0_part6_skel
  simp only [semSignalWord, semWaitWord, Prog.lift, Prog.bind_op, Prog.bind_ret, Prog.pure_eq_ret, wp_deviceId]
  iintro ⟨#HR, HO, Ho, B0, Cr, Ar, C9, A9⟩ Hk
  iapply (wp_load_wb c 0 (wrow m c (pd c 3)) (off := ![0, 0, 0]) rfl) $$ B0
  iintro %v142 %h142 B0
  iapply (wp_load_o c (acc1 m c)) $$ Ho
  iintro Ho
  iapply (wp_store_o c (acc1 m c)) $$ Ho
  iintro Ho
  rw [show k0_pay9 (k0_pay7 (acc1 m c)) (xrow m (pd c 3) c) v142 = acc2 m c from by
    show plus (acc1 m c) (mm (xrow m (pd c 3) c) (shapeCast S1024x2048 v142 shapeCasts_S1x1024x2048_S1024x2048)) = acc2 m c
    rw [h142]; rfl]
  iapply (wp_wait m K c (rk (pd c 2)) (fun h => by cases h) 0 (dmaOn_recv c (pd c 2) (pd_ne c 2 (by decide)).symm) NX (dmaAmt_recv _)
    (recvS_of _ _ (k0_off8_eq c 1) _) (sl_credit (j := pd c 2) _ (sl_of _ _ (k0_off9_eq c 1) _ _ _))) $$ [Cr HO Ar]
  · isplitr; · iexact HR
    isplitl [Cr]; · iexact Cr
    isplitl [HO]; · iexact HO
    iexact Ar
  rw [dmaPay_recv]
  iintro ⟨HO, Ar, -, S2⟩
  iapply (wp_wait m K c (wk 1) (by decide) 1 rfl NW rfl wS_eq1 (rfl : (wb 1).view.dmaCredit = NW)) $$ [C9 HO A9]
  · isplitr; · iexact HR
    isplitl [C9]; · iexact C9
    isplitl [HO]; · iexact HO
    iexact A9
  rw [dmaPay_wt m c 1 1 (pd c 2) rfl]
  iintro ⟨HO, A9, -, B1, W2⟩
  iapply (wp_load_o c (acc2 m c)) $$ Ho
  iintro Ho
  iapply (wp_load_sl c (pd c 2) (xrow m (pd c 2) c) (k0_off10_eq c 1)) $$ S2
  iintro %v163 %h163 S2
  iapply (wp_load_wb c 1 (wrow m c (pd c 2)) (off := ![1, 0, 0]) rfl) $$ B1
  iintro %v165 %h165 B1
  iapply (wp_load_o c (acc2 m c)) $$ Ho
  iintro Ho
  iapply (wp_store_o c (acc2 m c)) $$ Ho
  iintro Ho
  rw [show k0_pay10 (acc2 m c) v163 v165 = acc3 m c from by
    show plus (acc2 m c) (mm (shapeCast S1024x1024 v163 shapeCasts_S1x1024x1024_S1024x1024) (shapeCast S1024x2048 v165 shapeCasts_S1x1024x2048_S1024x2048)) = acc3 m c
    rw [h163, h165]; rfl]
  iapply (wp_load_o c (acc3 m c)) $$ Ho
  iintro Ho
  iapply Hk
  isplitl [HO]; · iexact HO
  isplitl [Ho]; · iexact Ho
  isplitl [S2]; · iexact S2
  isplitl [Ar]; · iexact Ar
  isplitl [A9]; · iexact A9
  isplitl [B0]; · iexact B0
  isplitl [B1]; · iexact B1
  iexact W2

end Body

end Cert.KernelIdeal.Run

end
-- ==== Proof.Core.lean ====
/-
The whole body of the kernel on one device, from the pieces it starts with to the same pieces back.
-/
module

public import proofs.«01_k».proof.Proof.Parts

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

section Core
variable (K : Dev nD × Fin 11 → ℕ) (c : Dev nD)

/-- A device's positions at round 0 of its eleven cells. -/
def poss : sProp 𝕄 :=
  iprop(atPos ER (kc c 0) 0 ∅ 0 ∗ atPos ER (kc c 1) 0 ∅ 0 ∗ atPos ER (kc c 2) 0 ∅ 0 ∗ atPos ER (kc c 3) 0 ∅ 0
    ∗ atPos ER (kc c (rk c)) 0 ∅ 0 ∗ atPos ER (kc c (rk (pd c 1))) 0 ∅ 0 ∗ atPos ER (kc c (rk (pd c 2))) 0 ∅ 0 ∗ atPos ER (kc c (rk (pd c 3))) 0 ∅ 0
    ∗ atPos ER (kc c (wk 0)) 0 ∅ 0 ∗ atPos ER (kc c (wk 1)) 0 ∅ 0 ∗ atPos ER (kc c 10) 0 ∅ 0)
/-- The tokens of the duties that it pays. -/
def payToks : sProp 𝕄 :=
  iprop((dutyTok ER (kc (pd c 1) 0) 0 c ∗ dutyTok ER (kc (pd c 2) 0) 0 c ∗ dutyTok ER (kc (pd c 3) 0) 0 c)
    ∗ (dutyTok ER (kc (pd c 1) (rk c)) 0 0 ∗ dutyTok ER (kc (pd c 2) (rk c)) 0 0 ∗ dutyTok ER (kc (pd c 3) (rk c)) 0 0)
    ∗ (dutyTok ER (kc c 1) 0 0 ∗ dutyTok ER (kc c 2) 0 0 ∗ dutyTok ER (kc c 3) 0 0 ∗ dutyTok ER (kc c 10) 0 0)
    ∗ dutyTok ER (kc c (wk 0)) 0 0 ∗ dutyTok ER (kc c (wk 0)) 1 0 ∗ dutyTok ER (kc c (wk 1)) 0 0 ∗ dutyTok ER (kc c (wk 1)) 1 0)
/-- The credit it has at launch: on its barrier, and on the receive counters of the other devices. -/
def crds : sProp 𝕄 :=
  iprop(cred (tallyAt (kc c 0) () 3) ∗ cred (tallyAt (kc c (rk (pd c 1))) () NX) ∗ cred (tallyAt (kc c (rk (pd c 2))) () NX)
    ∗ cred (tallyAt (kc c (rk (pd c 3))) () NX))
/-- Its `x`, its `w`, its comm buffer and its `w` buffers, in pieces. -/
def xAll : sProp 𝕄 := iprop(xpt m c c ∗ xpt m c (pd c 1) ∗ xpt m c (pd c 2) ∗ xpt m c (pd c 3))
def wAll : sProp 𝕄 := iprop(wpt m c (pd c 0) ∗ wpt m c (pd c 1) ∗ wpt m c (pd c 2) ∗ wpt m c (pd c 3))
def slAll : sProp 𝕄 := iprop((∃ X, slo c c X) ∗ (∃ X, slo c (pd c 1) X) ∗ (∃ X, slo c (pd c 2) X) ∗ (∃ X, slo c (pd c 3) X))
def wbAll : sProp 𝕄 := iprop((∃ X, wbo c 0 X) ∗ (∃ X, wbo c 1 X))
/-- Its eleven counters at zero. -/
def zeros : sProp 𝕄 :=
  iprop(semVal (kc c 0) 0 ∗ semVal (kc c 1) 0 ∗ semVal (kc c 2) 0 ∗ semVal (kc c 3) 0
    ∗ semVal (kc c (rk c)) 0 ∗ semVal (kc c (rk (pd c 1))) 0 ∗ semVal (kc c (rk (pd c 2))) 0 ∗ semVal (kc c (rk (pd c 3))) 0
    ∗ semVal (kc c (wk 0)) 0 ∗ semVal (kc c (wk 1)) 0 ∗ semVal (kc c 10) 0)

omit [FloatOps F] in
/-- A receive counter has nothing after its one landing. -/
theorem recv_done (j : Dev nD) : ∀ r, 1 ≤ r → (sched (F := F) m).duties (kc c (rk j)) r = ∅ := by
  have hj : j.val < 4 := j.isLt
  exact duties_one m c (rk j) (by show j.val + 4 ≠ 8; omega) (by show j.val + 4 ≠ 9; omega)

omit [FloatOps F] in
/-- Every cell past its last round: all counters are given back. -/
theorem all_done :
    iprop(records m K ∗ (atPos ER (kc c 0) 1 ∅ 0 ∗ atPos ER (kc c 1) 1 ∅ 0 ∗ atPos ER (kc c 2) 1 ∅ 0 ∗ atPos ER (kc c 3) 1 ∅ 0
      ∗ atPos ER (kc c (rk c)) 0 ∅ 0 ∗ atPos ER (kc c (rk (pd c 1))) 1 ∅ 0 ∗ atPos ER (kc c (rk (pd c 2))) 1 ∅ 0 ∗ atPos ER (kc c (rk (pd c 3))) 1 ∅ 0
      ∗ atPos ER (kc c (wk 0)) 2 ∅ 0 ∗ atPos ER (kc c (wk 1)) 2 ∅ 0 ∗ atPos ER (kc c 10) 1 ∅ 0))
      ⊢ |={Set.univ}=> (zeros c : sProp 𝕄) := by
  unfold zeros
  iintro ⟨#HR, A0, A1, A2, A3, Q0, Q1, Q2, Q3, A8, A9, A10⟩
  imod (cell_done m K c 0 1 (duties_one m c 0 (by decide) (by decide))) $$ [A0] with A0
  · isplitr; · iexact HR
    iexact A0
  imod (cell_done m K c 1 1 (duties_one m c 1 (by decide) (by decide))) $$ [A1] with A1
  · isplitr; · iexact HR
    iexact A1
  imod (cell_done m K c 2 1 (duties_one m c 2 (by decide) (by decide))) $$ [A2] with A2
  · isplitr; · iexact HR
    iexact A2
  imod (cell_done m K c 3 1 (duties_one m c 3 (by decide) (by decide))) $$ [A3] with A3
  · isplitr; · iexact HR
    iexact A3
  imod (cell_done m K c (rk c) 0 (duties_self m c)) $$ [Q0] with Q0
  · isplitr; · iexact HR
    iexact Q0
  imod (cell_done m K c (rk (pd c 1)) 1 (recv_done m c (pd c 1))) $$ [Q1] with Q1
  · isplitr; · iexact HR
    iexact Q1
  imod (cell_done m K c (rk (pd c 2)) 1 (recv_done m c (pd c 2))) $$ [Q2] with Q2
  · isplitr; · iexact HR
    iexact Q2
  imod (cell_done m K c (rk (pd c 3)) 1 (recv_done m c (pd c 3))) $$ [Q3] with Q3
  · isplitr; · iexact HR
    iexact Q3
  imod (cell_done m K c (wk 0) 2 (duties_later m c (wk 0))) $$ [A8] with A8
  · isplitr; · iexact HR
    iexact A8
  imod (cell_done m K c (wk 1) 2 (duties_later m c (wk 1))) $$ [A9] with A9
  · isplitr; · iexact HR
    iexact A9
  imod (cell_done m K c 10 1 (duties_one m c 10 (by decide) (by decide))) $$ [A10] with A10
  · isplitr; · iexact HR
    iexact A10
  imodintro
  isplitl [A0]; · iexact A0
  isplitl [A1]; · iexact A1
  isplitl [A2]; · iexact A2
  isplitl [A3]; · iexact A3
  isplitl [Q0]; · iexact Q0
  isplitl [Q1]; · iexact Q1
  isplitl [Q2]; · iexact Q2
  isplitl [Q3]; · iexact Q3
  isplitl [A8]; · iexact A8
  isplitl [A9]; · iexact A9
  iexact A10

set_option maxHeartbeats 1600000 in
/-- The body. -/
theorem wp_core (X : S1024x2048.Idx → Elt F .f32) (Kt : PUnit → sProp 𝕄) :
    iprop(records m K ∗ levAts L lv ∗ ow c (O₀ c) ∗ oo c X ∗ poss c ∗ payToks c ∗ crds c ∗ xAll m c ∗ wAll m c ∗ slAll c ∗ wbAll c)
      ⊢ iprop(((ow c 0 ∗ oo c (outAt m c) ∗ zeros c ∗ xAll m c ∗ wAll m c ∗ slAll c ∗ wbAll c)
            -∗ wp frame (wpE (defs₀ (F := F)) 𝒱₀ (c : Thread nD τ) none) Set.univ (.ret ⟨⟩) Kt)
          -∗ wp frame (wpE (defs₀ (F := F)) 𝒱₀ (c : Thread nD τ) none) Set.univ
              (cc0_body xM (Memref.isWhole_whole _) wM (Memref.isWhole_whole _) oM (Memref.isWhole_whole _) cM (Memref.isWhole_whole _) bM (Memref.isWhole_whole _) cc0_scratch2 cc0_scratch3 cc0_scratch4 cc0_scratch5) Kt) := by
  rw [cc0_body_eq_skeleton]; unfold cc0_body_skel
  unfold poss payToks crds xAll wAll slAll wbAll
  iintro ⟨#HR, #HL, HO, Ho, ⟨A0, A1, A2, A3, Q0, Q1, Q2, Q3, A8, A9, A10⟩,
    ⟨⟨B1, B2, B3⟩, ⟨R1, R2, R3⟩, ⟨T1, T2, T3, T0⟩, T80, T81, T90, T91⟩, ⟨Cb, C1, C2, C3⟩, ⟨X0, X1, X2, X3⟩, ⟨W0, W1, W2, W3⟩,
    ⟨S0, S1, S2, S3⟩, V0, V1⟩ Hk
  iapply (wp_part1 m K c) $$ [HO Cb A0 B1 B2 B3 S1 S2 S3]
  · isplitr; · iexact HR
    isplitr; · iexact HL
    isplitl [HO]; · iexact HO
    isplitl [Cb]; · iexact Cb
    isplitl [A0]; · iexact A0
    isplitl [B1]; · iexact B1
    isplitl [B2]; · iexact B2
    isplitl [B3]; · iexact B3
    isplitl [S1]; · iexact S1
    isplitl [S2]; · iexact S2
    iexact S3
  iintro %v ⟨HO, A0, S1, S2, S3⟩
  dsimp only
  iapply (wp_part2 m K c v) $$ [HO X0 X1 X2 X3 S0 S1 S2 S3 T1 T2 T3 T0 R1 R2 R3]
  · isplitr; · iexact HR
    isplitl [HO]; · iexact HO
    isplitl [X0]; · iexact X0
    isplitl [X1]; · iexact X1
    isplitl [X2]; · iexact X2
    isplitl [X3]; · iexact X3
    isplitl [S0]; · iexact S0
    isplitl [S1]; · iexact S1
    isplitl [S2]; · iexact S2
    isplitl [S3]; · iexact S3
    isplitl [T1]; · iexact T1
    isplitl [T2]; · iexact T2
    isplitl [T3]; · iexact T3
    isplitl [T0]; · iexact T0
    isplitl [R1]; · iexact R1
    isplitl [R2]; · iexact R2
    iexact R3
  iintro %v' ⟨HO, D1, D2, D3, D0⟩
  rcases v' with ⟨v57, v58⟩
  dsimp only
  iapply (wp_part3 m K c v v57 v58) $$ [HO W0 W1 V0 V1 T80 T90 D0 A10 A8]
  · isplitr; · iexact HR
    isplitl [HO]; · iexact HO
    isplitl [W0]; · iexact W0
    isplitl [W1]; · iexact W1
    isplitl [V0]; · iexact V0
    isplitl [V1]; · iexact V1
    isplitl [T80]; · iexact T80
    isplitl [T90]; · iexact T90
    isplitl [D0]; · iexact D0
    isplitl [A10]; · iexact A10
    iexact A8
  iintro %v59 %v61 %v85 %h85 ⟨HO, S0, X0, A10, A8, M8, V0, W0, C9⟩
  dsimp only
  iapply (wp_part4 m K c v57 v59 X v85 h85) $$ [HO Ho W3 V0 T81 M8 C1 Q1 C9 A9]
  · isplitr; · iexact HR
    isplitl [HO]; · iexact HO
    isplitl [Ho]; · iexact Ho
    isplitl [W3]; · iexact W3
    isplitl [V0]; · iexact V0
    isplitl [T81]; · iexact T81
    isplitl [M8]; · iexact M8
    isplitl [C1]; · iexact C1
    isplitl [Q1]; · iexact Q1
    isplitl [C9]; · iexact C9
    iexact A9
  iintro %v113 %h113 ⟨HO, Ho, C8, S1, Q1, A9, M9, V1, W1⟩
  dsimp only
  iapply (wp_part5 m K c v59 v61 v113 h113) $$ [HO Ho W2 V1 T91 M9 C3 Q3 C8 A8]
  · isplitr; · iexact HR
    isplitl [HO]; · iexact HO
    isplitl [Ho]; · iexact Ho
    isplitl [W2]; · iexact W2
    isplitl [V1]; · iexact V1
    isplitl [T91]; · iexact T91
    isplitl [M9]; · iexact M9
    isplitl [C3]; · iexact C3
    isplitl [Q3]; · iexact Q3
    isplitl [C8]; · iexact C8
    iexact A8
  iintro ⟨HO, Ho, C9, S3, Q3, A8, V0, W3⟩
  dsimp only
  iapply (wp_part6 m K c v61) $$ [HO Ho V0 C2 Q2 C9 A9]
  · isplitr; · iexact HR
    isplitl [HO]; · iexact HO
    isplitl [Ho]; · iexact Ho
    isplitl [V0]; · iexact V0
    isplitl [C2]; · iexact C2
    isplitl [Q2]; · iexact Q2
    isplitl [C9]; · iexact C9
    iexact A9
  iintro ⟨HO, Ho, S2, Q2, A9, V0, V1, W2⟩
  simp only [Prog.lift, Prog.bind_op, Prog.bind_ret, Prog.pure_eq_ret]
  iapply (wp_load_o c (acc3 m c)) $$ Ho
  iintro Ho
  iapply (wp_store_o c (acc3 m c)) $$ Ho
  iintro Ho
  iapply (wp_wait m K c 1 (by decide) 0 rfl NX rfl sendS_eq0 (xB_credit (j := pd c 1) _ (xB_of _ _ (k0_off3_eq c 0) _ _))) $$ [D1 HO A1]
  · isplitr; · iexact HR
    isplitl [D1]; · iexact D1
    isplitl [HO]; · iexact HO
    iexact A1
  rw [show dmaPay m c (1 : Fin 11).val 0 = xpt m c (pd c 1) from rfl]
  iintro ⟨HO, A1, -, X1⟩
  iapply (wp_wait m K c 2 (by decide) 0 rfl NX rfl sendS_eq1 (xB_credit (j := pd c 2) _ (xB_of _ _ (k0_off3_eq c 1) _ _))) $$ [D2 HO A2]
  · isplitr; · iexact HR
    isplitl [D2]; · iexact D2
    isplitl [HO]; · iexact HO
    iexact A2
  rw [show dmaPay m c (2 : Fin 11).val 0 = xpt m c (pd c 2) from rfl]
  iintro ⟨HO, A2, -, X2⟩
  iapply (wp_wait m K c 3 (by decide) 0 rfl NX rfl sendS_eq2 (xB_credit (j := pd c 3) _ (xB_of _ _ (k0_off3_eq c 2) _ _))) $$ [D3 HO A3]
  · isplitr; · iexact HR
    isplitl [D3]; · iexact D3
    isplitl [HO]; · iexact HO
    iexact A3
  rw [show dmaPay m c (3 : Fin 11).val 0 = xpt m c (pd c 3) from rfl]
  iintro ⟨HO, A3, -, X3⟩
  imod (all_done m K c) $$ [A0 A1 A2 A3 Q0 Q1 Q2 Q3 A8 A9 A10] with Z
  · isplitr; · iexact HR
    isplitl [A0]; · iexact A0
    isplitl [A1]; · iexact A1
    isplitl [A2]; · iexact A2
    isplitl [A3]; · iexact A3
    isplitl [Q0]; · iexact Q0
    isplitl [Q1]; · iexact Q1
    isplitl [Q2]; · iexact Q2
    isplitl [Q3]; · iexact Q3
    isplitl [A8]; · iexact A8
    isplitl [A9]; · iexact A9
    iexact A10
  iapply Hk
  isplitl [HO]; · iexact HO
  isplitl [Ho]; · iexact Ho
  isplitl [Z]; · iexact Z
  isplitl [X0 X1 X2 X3]
  · isplitl [X0]; · iexact X0
    isplitl [X1]; · iexact X1
    isplitl [X2]; · iexact X2
    iexact X3
  isplitl [W0 W1 W2 W3]
  · isplitl [W0]; · iexact W0
    isplitl [W1]; · iexact W1
    isplitl [W2]; · iexact W2
    iexact W3
  isplitl [S0 S1 S2 S3]
  · isplitl [S0]; · iexists _; iexact S0
    isplitl [S1]; · iexists _; iexact S1
    isplitl [S2]; · iexists _; iexact S2
    iexists _; iexact S3
  isplitl [V0]; · iexists _; iexact V0
  iexists _; iexact V1

end Core

end Cert.KernelIdeal.Run

end
-- ==== Proof.Pieces.lean ====
/-
The buffers whole and in pieces: `x` and `w` are their four row blocks, the comm buffer its four slots, the `w` buffers two.
-/
module

public import proofs.«01_k».proof.Proof.Core

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The pieces of a buffer are disjoint and cover it -/

/-- The elements of a row block of `x` are its rectangle. -/
theorem xB_set (k : Dev nD) : (xB k).view.set = (xR k).set := View.set_slice_whole _ _
/-- The elements of a row block of `w` are its rectangle. -/
theorem wB_set (k : Dev nD) : (wB k).view.set = (wR k).set := View.set_slice_whole _ _
/-- The elements of a comm slot are its rectangle. -/
theorem sl_set (j : Dev nD) : (sl j).view.set = (slR j).set := by
  rw [Memref.set_view_squeeze]; exact View.set_slice_whole _ _
/-- The elements of a `w` buffer are its rectangle. -/
theorem wb_set (b : Fin 2) : (wb b).view.set = (wbR b).set := by
  rw [Memref.set_view_squeeze]; exact View.set_slice_whole _ _

/-- An index of `x` is in row block `k` when its row is one of that block's 1024. -/
theorem xR_mem (k : Dev nD) (i : S4096x1024.Idx) : i ∈ (xR k).set ↔ 1024 * k.val ≤ (i 0).val ∧ (i 0).val < 1024 * k.val + 1024 := by
  rw [Rect.mem_set_unit]
  refine ⟨fun h => h 0, fun h a => ?_⟩
  fin_cases a
  · exact h
  · exact ⟨Nat.zero_le _, by show (i 1).val < 0 + 1024; rw [Nat.zero_add]; exact (i 1).isLt⟩
/-- An index of `w` is in row block `k` when its row is one of that block's 1024. -/
theorem wR_mem (k : Dev nD) (i : S4096x2048.Idx) : i ∈ (wR k).set ↔ 1024 * k.val ≤ (i 0).val ∧ (i 0).val < 1024 * k.val + 1024 := by
  rw [Rect.mem_set_unit]
  refine ⟨fun h => h 0, fun h a => ?_⟩
  fin_cases a
  · exact h
  · exact ⟨Nat.zero_le _, by show (i 1).val < 0 + 2048; rw [Nat.zero_add]; exact (i 1).isLt⟩
/-- An index of the comm buffer is in slot `j` when its first coordinate is `j`. -/
theorem slR_mem (j : Dev nD) (i : S4x1024x1024.Idx) : i ∈ (slR j).set ↔ (i 0).val = j.val := by
  rw [Rect.mem_set_unit]
  refine ⟨fun h => by have h0 : j.val ≤ (i 0).val ∧ (i 0).val < j.val + 1 := h 0; omega, fun h a => ?_⟩
  fin_cases a
  · show j.val ≤ (i 0).val ∧ (i 0).val < j.val + 1; omega
  · exact ⟨Nat.zero_le _, by show (i 1).val < 0 + 1024; rw [Nat.zero_add]; exact (i 1).isLt⟩
  · exact ⟨Nat.zero_le _, by show (i 2).val < 0 + 1024; rw [Nat.zero_add]; exact (i 2).isLt⟩
/-- An index of the `w` buffers is in buffer `b` when its first coordinate is `b`. -/
theorem wbR_mem (b : Fin 2) (i : S2x1024x2048.Idx) : i ∈ (wbR b).set ↔ (i 0).val = b.val := by
  rw [Rect.mem_set_unit]
  refine ⟨fun h => by have h0 : b.val ≤ (i 0).val ∧ (i 0).val < b.val + 1 := h 0; omega, fun h a => ?_⟩
  fin_cases a
  · show b.val ≤ (i 0).val ∧ (i 0).val < b.val + 1; omega
  · exact ⟨Nat.zero_le _, by show (i 1).val < 0 + 1024; rw [Nat.zero_add]; exact (i 1).isLt⟩
  · exact ⟨Nat.zero_le _, by show (i 2).val < 0 + 2048; rw [Nat.zero_add]; exact (i 2).isLt⟩

/-- The elements of piece `k` of that buffer. -/
def xSet (k : Dev nD) : Finset S4096x1024.Idx := (xB k).view.set
/-- Two row blocks of `x` share no element. -/
theorem x_apart (k k' : Dev nD) (h : k ≠ k') : Disjoint (xSet k) (xSet k') := by
  unfold xSet
  rw [xB_set, xB_set]
  refine Finset.disjoint_left.mpr fun i h1 h2 => h (Fin.ext ?_)
  have h1 := (xR_mem k i).mp h1
  have h2 := (xR_mem k' i).mp h2
  omega
/-- The row blocks of `x` are all of it. -/
theorem x_cover : (Finset.univ : Finset (Dev nD)).biUnion xSet = Finset.univ := by
  refine Finset.eq_univ_of_forall fun i => Finset.mem_biUnion.mpr ?_
  refine ⟨⟨(i 0).val / 1024, by have : (i 0).val < 4096 := (i 0).isLt; show _ < 4; omega⟩, Finset.mem_univ _, ?_⟩
  unfold xSet
  rw [xB_set]
  exact (xR_mem _ i).mpr (by show 1024 * ((i 0).val / 1024) ≤ _ ∧ _ < 1024 * ((i 0).val / 1024) + 1024; omega)

/-- The elements of piece `k` of that buffer. -/
def wSet (k : Dev nD) : Finset S4096x2048.Idx := (wB k).view.set
/-- Two row blocks of `w` share no element. -/
theorem w_apart (k k' : Dev nD) (h : k ≠ k') : Disjoint (wSet k) (wSet k') := by
  unfold wSet
  rw [wB_set, wB_set]
  refine Finset.disjoint_left.mpr fun i h1 h2 => h (Fin.ext ?_)
  have h1 := (wR_mem k i).mp h1
  have h2 := (wR_mem k' i).mp h2
  omega
/-- The row blocks of `w` are all of it. -/
theorem w_cover : (Finset.univ : Finset (Dev nD)).biUnion wSet = Finset.univ := by
  refine Finset.eq_univ_of_forall fun i => Finset.mem_biUnion.mpr ?_
  refine ⟨⟨(i 0).val / 1024, by have : (i 0).val < 4096 := (i 0).isLt; show _ < 4; omega⟩, Finset.mem_univ _, ?_⟩
  unfold wSet
  rw [wB_set]
  exact (wR_mem _ i).mpr (by show 1024 * ((i 0).val / 1024) ≤ _ ∧ _ < 1024 * ((i 0).val / 1024) + 1024; omega)

/-- The elements of piece `k` of that buffer. -/
def slSet (k : Dev nD) : Finset S4x1024x1024.Idx := (sl k).view.set
/-- Two comm slots share no element. -/
theorem sl_apart (k k' : Dev nD) (h : k ≠ k') : Disjoint (slSet k) (slSet k') := by
  unfold slSet
  rw [sl_set, sl_set]
  refine Finset.disjoint_left.mpr fun i h1 h2 => h (Fin.ext ?_)
  have h1 := (slR_mem k i).mp h1
  have h2 := (slR_mem k' i).mp h2
  omega
/-- The comm slots are all of the comm buffer. -/
theorem sl_cover : (Finset.univ : Finset (Dev nD)).biUnion slSet = Finset.univ := by
  refine Finset.eq_univ_of_forall fun i => Finset.mem_biUnion.mpr ?_
  refine ⟨⟨(i 0).val, (i 0).isLt⟩, Finset.mem_univ _, ?_⟩
  unfold slSet
  rw [sl_set]
  exact (slR_mem _ i).mpr rfl

/-- The elements of piece `k` of that buffer. -/
def wbSet (k : Fin 2) : Finset S2x1024x2048.Idx := (wb k).view.set
/-- The two `w` buffers share no element. -/
theorem wb_apart (k k' : Fin 2) (h : k ≠ k') : Disjoint (wbSet k) (wbSet k') := by
  unfold wbSet
  rw [wb_set, wb_set]
  refine Finset.disjoint_left.mpr fun i h1 h2 => h (Fin.ext ?_)
  have h1 := (wbR_mem k i).mp h1
  have h2 := (wbR_mem k' i).mp h2
  omega
/-- The two `w` buffers are all of their array. -/
theorem wb_cover : (Finset.univ : Finset (Fin 2)).biUnion wbSet = Finset.univ := by
  refine Finset.eq_univ_of_forall fun i => Finset.mem_biUnion.mpr ?_
  refine ⟨⟨(i 0).val, (i 0).isLt⟩, Finset.mem_univ _, ?_⟩
  unfold wbSet
  rw [wb_set]
  exact (wbR_mem _ i).mpr rfl

/-! ## Whole and in pieces -/

section Pieces
variable (c : Dev nD)

omit [FloatOps F] in
/-- A resource for every device, listed from device `c` on around the ring. -/
theorem four (Φ : Dev nD → sProp 𝕄) : bigSep Finset.univ Φ = iprop(Φ c ∗ Φ (pd c 1) ∗ Φ (pd c 2) ∗ Φ (pd c 3)) :=
  bigSep_univ_eq_bigSepL [c, pd c 1, pd c 2, pd c 3] (by revert c; decide) (by revert c; decide) Φ

omit [FloatOps F] in
/-- `x` held whole at its launch contents is held in its four row blocks; `w` too. -/
theorem x_pieces : (((c : Thread nD τ).loc main_arg0) ↦{fullShare} m ((c : Thread nD τ).loc main_arg0) : sProp 𝕄) = xAll m c := by
  unfold xAll
  rw [← four c (fun k => xpt m c k)]
  exact Ring.pointsTo_blocks (ℓ := (c : Thread nD τ).loc main_arg0) xSet x_apart x_cover _
omit [FloatOps F] in
/-- `w` held whole at its launch contents is held in its four row blocks. -/
theorem w_pieces : (((c : Thread nD τ).loc main_arg1) ↦{fullShare} m ((c : Thread nD τ).loc main_arg1) : sProp 𝕄) = wAll m c := by
  unfold wAll
  rw [pd_zero, ← four c (fun k => wpt m c k)]
  exact Ring.pointsTo_blocks (ℓ := (c : Thread nD τ).loc main_arg1) wSet w_apart w_cover _

omit [FloatOps F] in
/-- Slot `j`'s elements at some contents are the slot holding something. -/
theorem sl_open (j : Dev nD) (f : Buf (Elt F) ((c : Thread nD τ).loc cc0_scratch0)) :
    (((c : Thread nD τ).loc cc0_scratch0) ↦[slSet j]{fullShare} f : sProp 𝕄) ⊢ iprop(∃ X, slo c j X) := by
  iintro H
  iexists ((sl j).view.read (Elt F) f)
  unfold slo
  iapply (owns_intro (c : Thread nD τ) (sl j) fullShare f); iexact H
omit [FloatOps F] in
/-- A slot that holds something is its elements at some contents. -/
theorem sl_shut (j : Dev nD) :
    (iprop(∃ X, slo c j X) : sProp 𝕄) ⊢ iprop(∃ f, ((c : Thread nD τ).loc cc0_scratch0) ↦[slSet j]{fullShare} f) := by
  unfold slo owns
  iintro ⟨%X, %f, -, H⟩
  iexists f; iexact H
omit [FloatOps F] in
/-- The comm buffer at any contents is its four slots at any contents; the `w` buffers likewise. -/
theorem sl_split : (iprop(∃ f, ((c : Thread nD τ).loc cc0_scratch0) ↦{fullShare} f) : sProp 𝕄) ⊢ slAll c := by
  unfold slAll
  rw [← four c (fun j => iprop(∃ X, slo c j X))]
  iintro ⟨%f, H⟩
  iapply (show ((((c : Thread nD τ).loc cc0_scratch0) ↦{fullShare} f : sProp 𝕄)) ⊢ bigSep Finset.univ fun j => iprop(∃ X, slo c j X) from by
    refine (Entails.of_eq (Ring.pointsTo_blocks (ℓ := (c : Thread nD τ).loc cc0_scratch0) slSet sl_apart sl_cover f)).trans
      (bigSep_mono fun j _ => sl_open c j f))
  iexact H
omit [FloatOps F] in
/-- The four slots at any contents are the comm buffer at any contents. -/
theorem sl_join (f₀ : Buf (Elt F) ((c : Thread nD τ).loc cc0_scratch0)) : slAll c ⊢ (iprop(∃ f, ((c : Thread nD τ).loc cc0_scratch0) ↦{fullShare} f) : sProp 𝕄) := by
  unfold slAll
  rw [← four c (fun j => iprop(∃ X, slo c j X))]
  exact (bigSep_mono fun j _ => sl_shut c j).trans
    (Ring.pointsTo_blocks_join_exists (ℓ := (c : Thread nD τ).loc cc0_scratch0) slSet sl_apart sl_cover f₀)

omit [FloatOps F] in
/-- A resource for each of the two `w` buffers, listed. -/
theorem two (Φ : Fin 2 → sProp 𝕄) : bigSep Finset.univ Φ = iprop(Φ 0 ∗ Φ 1) :=
  bigSep_univ_eq_bigSepL [0, 1] (by decide) (by decide) Φ
omit [FloatOps F] in
/-- The elements of `w` buffer `b` at some contents are the buffer holding something. -/
theorem wb_open (b : Fin 2) (f : Buf (Elt F) ((c : Thread nD τ).loc cc0_scratch1)) :
    (((c : Thread nD τ).loc cc0_scratch1) ↦[wbSet b]{fullShare} f : sProp 𝕄) ⊢ iprop(∃ X, wbo c b X) := by
  iintro H
  iexists ((wb b).view.read (Elt F) f)
  unfold wbo
  iapply (owns_intro (c : Thread nD τ) (wb b) fullShare f); iexact H
omit [FloatOps F] in
/-- A `w` buffer that holds something is its elements at some contents. -/
theorem wb_shut (b : Fin 2) :
    (iprop(∃ X, wbo c b X) : sProp 𝕄) ⊢ iprop(∃ f, ((c : Thread nD τ).loc cc0_scratch1) ↦[wbSet b]{fullShare} f) := by
  unfold wbo owns
  iintro ⟨%X, %f, -, H⟩
  iexists f; iexact H
omit [FloatOps F] in
/-- The array of `w` buffers at any contents is the two at any contents. -/
theorem wb_split : (iprop(∃ f, ((c : Thread nD τ).loc cc0_scratch1) ↦{fullShare} f) : sProp 𝕄) ⊢ wbAll c := by
  unfold wbAll
  rw [← two (fun b => iprop(∃ X, wbo c b X))]
  iintro ⟨%f, H⟩
  iapply (show ((((c : Thread nD τ).loc cc0_scratch1) ↦{fullShare} f : sProp 𝕄)) ⊢ bigSep Finset.univ fun b => iprop(∃ X, wbo c b X) from by
    refine (Entails.of_eq (Ring.pointsTo_blocks (ℓ := (c : Thread nD τ).loc cc0_scratch1) wbSet wb_apart wb_cover f)).trans
      (bigSep_mono fun b _ => wb_open c b f))
  iexact H
omit [FloatOps F] in
/-- The two `w` buffers at any contents are their array at any contents. -/
theorem wb_join (f₀ : Buf (Elt F) ((c : Thread nD τ).loc cc0_scratch1)) : wbAll c ⊢ (iprop(∃ f, ((c : Thread nD τ).loc cc0_scratch1) ↦{fullShare} f) : sProp 𝕄) := by
  unfold wbAll
  rw [← two (fun b => iprop(∃ X, wbo c b X))]
  exact (bigSep_mono fun b _ => wb_shut c b).trans
    (Ring.pointsTo_blocks_join_exists (ℓ := (c : Thread nD τ).loc cc0_scratch1) wbSet wb_apart wb_cover f₀)

end Pieces

end Cert.KernelIdeal.Run

end
-- ==== Proof.Launch.lean ====
/-
The launch: from any memory, all four devices run to the end, their arguments as they were, every counter at zero and
the result array as computed.
-/
module

public import proofs.«01_k».proof.Proof.Pieces
public import proofs.«01_k».proof.Proof.Gen.KernelIdeal.Points
public import Idealize.ShloMosaic.Lib.Pipeline.CollectiveSegs

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What the pipeline around the body is told -/

/-- What a device holds of the protocol before its body. -/
def start (c : Dev nD) : sProp 𝕄 :=
  iprop((∃ K, records m K ∗ poss c ∗ payToks c) ∗ crds c ∗ levAts L lv
    ∗ (((c : Thread nD τ).loc main_arg0) ↦{fullShare} m ((c : Thread nD τ).loc main_arg0))
    ∗ (((c : Thread nD τ).loc main_arg1) ↦{fullShare} m ((c : Thread nD τ).loc main_arg1)))

/-- The two scratch buffers at any contents. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

/-- The arguments whole, as at launch. -/
def args (c : Dev nD) : sProp 𝕄 :=
  iprop((((c : Thread nD τ).loc main_arg0) ↦{fullShare} m ((c : Thread nD τ).loc main_arg0))
    ∗ (((c : Thread nD τ).loc main_arg1) ↦{fullShare} m ((c : Thread nD τ).loc main_arg1)))

def Φ₀ (c : Dev nD) : sProp 𝕄 := iprop(start m c ∗ scratch c)
def Φ₁ (c : Dev nD) : sProp 𝕄 := iprop(args m c ∗ zeros c ∗ scratch c)

/-- The proof data: the body leaves the output block `outAt`; it starts owing its signals and copies and ends owing nothing. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev t₀ : Fin cfg0.N := t0_0

/-! ## The body -/

section Body
variable (c : Dev nD)

omit [FloatOps F] in
/-- Owning a whole buffer that holds `X` is holding all its elements at `X`. -/
theorem owns_whole_eq (b : Ref sig .tc) (X : b.ty.Contents (Elt F)) :
    (owns (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-- The staging buffer of the output at contents `X`. -/
abbrev stg (X : S1024x2048.Idx → Elt F .f32) : sProp 𝕄 :=
  iprop(∃ f : Buf (Elt F) ((c : Thread nD τ).loc cc0_stg0_0), ⌜f = X⌝ ∗ (((c : Thread nD τ).loc cc0_stg0_0) ↦{fullShare} f))

def bodyPre : sProp 𝕄 :=
  iprop(Φ₀ m c ∗ (dats m ρ 0 c).owesAt () t₀.castSucc ∗ (∃ d, stg c ((dats m ρ 0 c).before (0 : Fin 1) t₀ d)))
def bodyPost : sProp 𝕄 :=
  iprop(Φ₁ m c ∗ (dats m ρ 0 c).owesAt () t₀.succ ∗ stg c (outAt m c))

/-- The body from whole buffers to whole buffers. -/
theorem body_whole :
    bodyPre m ρ c ⊢ wp frame (wpE (defs₀ (F := F)) 𝒱₀ (c : Thread nD τ) none) Set.univ
      (cc0_body xM (Memref.isWhole_whole _) wM (Memref.isWhole_whole _) oM (Memref.isWhole_whole _) cM (Memref.isWhole_whole _) bM (Memref.isWhole_whole _)
        cc0_scratch2 cc0_scratch3 cc0_scratch4 cc0_scratch5) (fun _ => bodyPost m ρ c) := by
  unfold bodyPre Φ₀ start scratch
  iintro ⟨⟨⟨⟨%K, HR, HP, HT⟩, HC, HL, Hx, Hw⟩, ⟨%f0, Hs⟩, ⟨%f1, Hb⟩⟩, Ho, ⟨%d, %g, %hg, Hout⟩⟩
  unfold Dat.owesAt Pipeline.owesWithin
  icases Ho with ⟨%W, %hW, HO⟩
  rw [show (dats m ρ 0 c).owed t₀.castSucc = O₀ c from rfl]
  ihave Hx := (Entails.of_eq (x_pieces m c)) $$ Hx
  ihave Hw := (Entails.of_eq (w_pieces m c)) $$ Hw
  ihave Hs := (sl_split (F := F) c) $$ [Hs]
  · iexists f0; iexact Hs
  ihave Hb := (wb_split (F := F) c) $$ [Hb]
  · iexists f1; iexact Hb
  iapply (wp_core m K c g (fun _ => bodyPost m ρ c)) $$ [HR HL HO Hout HP HT HC Hx Hw Hs Hb]
  · isplitl [HR]; · iexact HR
    isplitl [HL]; · iexact HL
    isplitl [HO]; · unfold ow; iexists W; iexact HO
    isplitl [Hout]; · unfold oo; iexact Hout
    isplitl [HP]; · iexact HP
    isplitl [HT]; · iexact HT
    isplitl [HC]; · iexact HC
    isplitl [Hx]; · iexact Hx
    isplitl [Hw]; · iexact Hw
    isplitl [Hs]; · iexact Hs
    iexact Hb
  iintro ⟨HO, Hout, HZ, Hx, Hw, Hs, Hb⟩
  rw [wp_ret]; imodintro
  unfold bodyPost Φ₁ args scratch Dat.owesAt Pipeline.owesWithin
  rw [show (dats m ρ 0 c).owed t₀.succ = 0 from rfl]
  isplitl [HZ Hx Hw Hs Hb]
  · isplitl [Hx Hw]
    · isplitl [Hx]
      · iapply (Entails.of_eq (x_pieces m c).symm); iexact Hx
      · iapply (Entails.of_eq (w_pieces m c).symm); iexact Hw
    isplitl [HZ]; · iexact HZ
    isplitl [Hs]
    · iapply (sl_join (F := F) c f0); iexact Hs
    · iapply (wb_join (F := F) c f1); iexact Hb
  isplitl [HO]
  · unfold ow
    icases HO with ⟨%W', HO⟩
    iexists W'
    isplitr; · ipureintro; exact fun _ _ => Or.inl trivial
    iexact HO
  iexists _; isplitr; · (ipureintro; rfl)
  unfold oo; iexact Hout

set_option maxRecDepth 4000 in
/-- What the pipeline asks of the body. -/
theorem body_obligation : BodyObligation (dats (F := F) m ρ 0 c) (defs₀ (F := F)) 𝒱₀ () Set.univ := fun t => by
  rw [fin_N0 t]
  rw [bigSep_W0, bigSep_W0]
  show _ ⊢ wp frame (wpE (defs₀ (F := F)) 𝒱₀ (c : Thread nD τ) none) Set.univ
      (cc0_body xM (Memref.isWhole_whole _) wM (Memref.isWhole_whole _) oM (Memref.isWhole_whole _) cM (Memref.isWhole_whole _) bM (Memref.isWhole_whole _)
        cc0_scratch2 cc0_scratch3 cc0_scratch4 cc0_scratch5) _
  have h := body_whole m ρ c
  unfold bodyPre bodyPost stg at h
  simp only [← owns_whole_eq] at h
  exact h

end Body

/-! ## The launch's resources -/

/-- The kernel's own counters, all but the barrier. -/
abbrev osem : Fin 10 → SemLoc sig := fun k => csem k.succ

/-- The kernel's own counters are those that its launch lists. -/
theorem ownSemFacts : Pipeline.OwnSemFacts cfg0.spec osem := by decide

/-- Every array of the launch is held with the full share. -/
theorem share_eq (c : Dev nD) (w : Fin cfg0.W) : (dats m ρ 0 c).share w = fullShare := by unfold Dat.share; split <;> rfl

/-- The eleven semaphores differ. -/
theorem csem_injective : Function.Injective csem := by decide
/-- So do the cells of all devices. -/
theorem kcell_injective : Function.Injective (kcell : Dev nD × Fin 11 → GSem nD τ sig) := by
  rintro ⟨c, k⟩ ⟨c', k'⟩ h
  have h1 : c = c' := congrArg (fun g : GSem nD τ sig => g.1.1) h
  have h2 : k = k' := csem_injective (congrArg Prod.snd h)
  rw [h1, h2]
def ringCells : Finset (GSem nD τ sig) := Finset.univ.map ⟨kcell, kcell_injective⟩

/-- The fourteen duties of a device's own cells: the counter, the round and the payer of each. -/
def tk (c : Dev nD) : Fin 14 → Fin 11 × ℕ × Dev nD
  | ⟨0, _⟩ => (0, 0, pd c 1) | ⟨1, _⟩ => (0, 0, pd c 2) | ⟨2, _⟩ => (0, 0, pd c 3)
  | ⟨3, _⟩ => (rk (pd c 1), 0, 0) | ⟨4, _⟩ => (rk (pd c 2), 0, 0) | ⟨5, _⟩ => (rk (pd c 3), 0, 0)
  | ⟨6, _⟩ => (1, 0, 0) | ⟨7, _⟩ => (2, 0, 0) | ⟨8, _⟩ => (3, 0, 0) | ⟨9, _⟩ => (10, 0, 0)
  | ⟨10, _⟩ => (wk 0, 0, 0) | ⟨11, _⟩ => (wk 0, 1, 0) | ⟨12, _⟩ => (wk 1, 0, 0) | ⟨13, _⟩ => (wk 1, 1, 0)
abbrev tokOf (cj : Dev nD × Fin 14) : GSem nD τ sig × ℕ × Dev nD := (kc cj.1 (tk cj.1 cj.2).1, (tk cj.1 cj.2).2)
set_option maxRecDepth 8000 in
/-- A device's fourteen duties differ. -/
theorem tk_injective (c : Dev nD) : Function.Injective (tk c) := by revert c; decide +kernel
/-- So do the duties of all devices. -/
theorem tokOf_injective : Function.Injective tokOf := by
  rintro ⟨c, j⟩ ⟨c', j'⟩ h
  have h0 := kcell_injective (congrArg Prod.fst h)
  have h1 : c = c' := congrArg Prod.fst h0
  subst h1
  have h2 : (tk c j).1 = (tk c j').1 := congrArg Prod.snd h0
  have h3 : (tk c j).2 = (tk c j').2 := congrArg (fun x : GSem nD τ sig × ℕ × Dev nD => x.2) h
  rw [tk_injective c (Prod.ext h2 h3)]
def ringToks : Finset (GSem nD τ sig × ℕ × Dev nD) := Finset.univ.map ⟨tokOf, tokOf_injective⟩

/-- The launch element: the pipeline's share and the ring's. -/
def u₀ : UU := (initOf (Pipeline.cells cfgs cellOf_inj) (Pipeline.launchToks cfgs cellOf_inj), initOf ringCells ringToks)

/-- The tokens of the duties of a device's own cells. -/
def toks (c : Dev nD) : sProp 𝕄 :=
  iprop((dutyTok ER (kc c 0) 0 (pd c 1) ∗ dutyTok ER (kc c 0) 0 (pd c 2) ∗ dutyTok ER (kc c 0) 0 (pd c 3))
    ∗ (dutyTok ER (kc c (rk (pd c 1))) 0 0 ∗ dutyTok ER (kc c (rk (pd c 2))) 0 0 ∗ dutyTok ER (kc c (rk (pd c 3))) 0 0)
    ∗ (dutyTok ER (kc c 1) 0 0 ∗ dutyTok ER (kc c 2) 0 0 ∗ dutyTok ER (kc c 3) 0 0 ∗ dutyTok ER (kc c 10) 0 0)
    ∗ dutyTok ER (kc c (wk 0)) 0 0 ∗ dutyTok ER (kc c (wk 0)) 1 0 ∗ dutyTok ER (kc c (wk 1)) 0 0 ∗ dutyTok ER (kc c (wk 1)) 1 0)

/-- What the launch deals to a device, and what the cells' allocation makes of it. -/
def G (c : Dev nD) : sProp 𝕄 :=
  iprop((bigSep Finset.univ fun k : Fin 11 => roundState ER (sched m) (kc c k) 0)
    ∗ (bigSep Finset.univ fun k : Fin 11 => iprop(atPos ER (kc c k) 0 ∅ 0 ∗ reached ER (kc c k) 0)) ∗ toks c)
def G' (c : Dev nD) : sProp 𝕄 := iprop(∃ K, records m K ∗ poss c ∗ payToks c)

omit [FloatOps F] in
/-- Fourteen resources, listed. -/
theorem fourteen (Φ : Fin 14 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13) :=
  bigSep_univ_eq_bigSepL [0, 1, 2, 3, 4, 5, 6, 7, 8, 9, 10, 11, 12, 13] (by decide) (by decide) Φ
omit [FloatOps F] in
/-- The tokens of a device's fourteen duties, in the grouping of `toks`. -/
theorem toks_eq (c : Dev nD) : (bigSep Finset.univ fun j : Fin 14 => (dutyTok ER (tokOf (c, j)).1 (tokOf (c, j)).2.1 (tokOf (c, j)).2.2 : sProp 𝕄)) ⊢ toks c := by
  rw [fourteen]
  unfold toks
  iintro ⟨H0, H1, H2, H3, H4, H5, H6, H7, H8, H9, H10, H11, H12, H13⟩
  isplitl [H0 H1 H2]
  · isplitl [H0]; · iexact H0
    isplitl [H1]; · iexact H1
    iexact H2
  isplitl [H3 H4 H5]
  · isplitl [H3]; · iexact H3
    isplitl [H4]; · iexact H4
    iexact H5
  isplitl [H6 H7 H8 H9]
  · isplitl [H6]; · iexact H6
    isplitl [H7]; · iexact H7
    isplitl [H8]; · iexact H8
    iexact H9
  isplitl [H10]; · iexact H10
  isplitl [H11]; · iexact H11
  isplitl [H12]; · iexact H12
  iexact H13

omit [FloatOps F] in
/-- The launch element makes every device's round states, positions, marks and tokens. -/
theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 11 => Φ (kc c k) := by
    unfold ringCells; rw [bigSep_map, bigSep_univ_prod]; rfl
  have hT : bigSep ringToks (fun x => (dutyTok ER x.1 x.2.1 x.2.2 : sProp 𝕄)) ⊢ bigSep Finset.univ fun c : Dev nD => toks c := by
    unfold ringToks; rw [bigSep_map, bigSep_univ_prod]
    exact bigSep_mono fun c _ => toks_eq c
  iintro HX
  imod (Rounds.fund ER (sched m) ringCells ringToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := hT $$ Htok
  unfold G; simp only [bigSep_sep']
  isplitl [Hst']; · iexact Hst'
  isplitl [Hat' Hr']
  · isplitl [Hat'] <;> iassumption
  iexact Htok'

/-! ## The counters -/

omit [FloatOps F] in
/-- Eleven counters, the receive counters in the order of a device's distances. -/
theorem eleven (c : Dev nD) (Φ : Fin 11 → sProp 𝕄) : bigSep Finset.univ Φ
    = iprop(Φ 0 ∗ Φ 1 ∗ Φ 2 ∗ Φ 3 ∗ Φ (rk c) ∗ Φ (rk (pd c 1)) ∗ Φ (rk (pd c 2)) ∗ Φ (rk (pd c 3)) ∗ Φ (wk 0) ∗ Φ (wk 1) ∗ Φ 10) :=
  bigSep_univ_eq_bigSepL [0, 1, 2, 3, rk c, rk (pd c 1), rk (pd c 2), rk (pd c 3), wk 0, wk 1, 10] (by revert c; decide) (by revert c; decide) Φ

omit [FloatOps F] in
/-- The only counter that outlives the kernel is the barrier's. -/
theorem unscopedSems0_eq (c : Dev nD) : (unscopedSems0 c : sProp 𝕄) = semVal (kc c 0) 0 := by
  unfold unscopedSems0; rw [bigSep_eq_bigSepL_of_eq [SemLoc.reg barS] (by decide) (by decide)]; rfl

omit [FloatOps F] in
/-- The barrier's counter and the kernel's own are the eleven. -/
theorem sems0_eq (c : Dev nD) :
    (bigSep Finset.univ fun k : Fin 11 => semVal (kc c k) 0 : sProp 𝕄)
      = iprop(unscopedSems0 c ∗ Pipeline.ownSems0 (Ix := Unit) (Name := ℕ) (U := UU) (Lvl := ℕ) (Val := Elt F) (τ := τ) osem c) := by
  rw [unscopedSems0_eq]
  unfold Pipeline.ownSems0
  rw [bigSep_univ_eq_bigSepL [0, 1, 2, 3, 4, 5, 6, 7, 8, 9, 10] (by decide) (by decide),
    bigSep_univ_eq_bigSepL [(0 : Fin 10), 1, 2, 3, 4, 5, 6, 7, 8, 9] (by decide) (by decide)]
  rfl
omit [FloatOps F] in
/-- The kernel's counters at zero, as the launch lists them. -/
theorem zeros_eq (c : Dev nD) :
    (zeros c : sProp 𝕄) = iprop(unscopedSems0 c ∗ Pipeline.ownSems0 (Ix := Unit) (Name := ℕ) (U := UU) (Lvl := ℕ) (Val := Elt F) (τ := τ) osem c) := by
  rw [← sems0_eq, eleven c]; rfl

omit [FloatOps F] in
/-- Each device's cells get their invariants. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (sched m) κ (kc c k)))
          ∗ (bigSep Finset.univ fun k => iprop(atPos ER (kc c k) 0 ∅ 0 ∗ reached ER (kc c k) 0)) ∗ toks c) := by
  unfold G
  iintro ⟨Hos, Hus, Hst, Hat, Htok⟩
  ihave Hv := (Entails.of_eq (sems0_eq (F := F) c).symm) $$ [Hos Hus]
  · isplitl [Hus] <;> iassumption
  imod (show iprop((bigSep Finset.univ fun k : Fin 11 => semVal (kc c k) 0) ∗ bigSep Finset.univ fun k : Fin 11 => roundState ER (sched m) (kc c k) 0)
      ⊢ (|={Set.univ}=> bigSep Finset.univ fun k => iprop(∃ κ : ℕ, cellInv ER (sched m) κ (kc c k)) : sProp 𝕄) from by
        rw [← bigSep_sep']
        exact (bigSep_mono fun k _ => (Rounds.body_intro ER (sched m) (kc c k)).trans inv_alloc).trans (bigSep_fupd _ _)) $$ [Hv Hst] with Hinv
  · isplitl [Hv] <;> iassumption
  imodintro
  isplitl [Hinv]; · iexact Hinv
  isplitl [Hat]; · iexact Hat
  iexact Htok

/-! ## The tokens dealt to the devices that pay them -/

/-- The device `d` further on, as a permutation. -/
def rot (d : Fin 4) : Dev nD ≃ Dev nD :=
  ⟨fun c => pd c d.val, fun c => pd c (4 - d.val), fun c => by revert c d; decide, fun c => by revert c d; decide⟩

omit [FloatOps F] in
/-- What each device has for the device at distance `4 - d` goes to that device, at distance `d` from its owner. -/
theorem around (d : Fin 4) (Φ : Dev nD → Dev nD → sProp 𝕄) :
    bigSep Finset.univ (fun c => Φ c (pd c (4 - d.val))) = bigSep Finset.univ fun c => Φ (pd c d.val) c := by
  rw [bigSep_univ_equiv (rot d)]
  refine bigSep_congr fun c _ => ?_
  show Φ (pd c d.val) (pd (pd c d.val) (4 - d.val)) = Φ (pd c d.val) c
  rw [show pd (pd c d.val) (4 - d.val) = c from by revert c d; decide]

omit [FloatOps F] in
/-- The tokens of every device's own cells are, together, the tokens that every device pays with. -/
theorem toks_around : (bigSep Finset.univ fun c : Dev nD => (toks c : sProp 𝕄)) ⊢ bigSep Finset.univ fun c : Dev nD => payToks c := by
  unfold toks payToks
  simp only [bigSep_sep']
  iintro ⟨⟨B1, B2, B3⟩, ⟨R1, R2, R3⟩, HT, HW⟩
  isplitl [B1 B2 B3]
  · isplitl [B3]; · iapply (Entails.of_eq (around (F := F) 1 fun c j => dutyTok ER (kc c 0) 0 j)); iexact B3
    isplitl [B2]; · iapply (Entails.of_eq (around (F := F) 2 fun c j => dutyTok ER (kc c 0) 0 j)); iexact B2
    iapply (Entails.of_eq (around (F := F) 3 fun c j => dutyTok ER (kc c 0) 0 j)); iexact B1
  isplitl [R1 R2 R3]
  · isplitl [R3]; · iapply (Entails.of_eq (around (F := F) 1 fun c j => dutyTok ER (kc c (rk j)) 0 0)); iexact R3
    isplitl [R2]; · iapply (Entails.of_eq (around (F := F) 2 fun c j => dutyTok ER (kc c (rk j)) 0 0)); iexact R2
    iapply (Entails.of_eq (around (F := F) 3 fun c j => dutyTok ER (kc c (rk j)) 0 0)); iexact R1
  isplitl [HT]; · iexact HT
  iexact HW

omit [FloatOps F] in
/-- A device's share of the launch, from the shared records, its positions and its tokens. -/
theorem deal (K : Dev nD × Fin 11 → ℕ) (c : Dev nD) :
    iprop(records m K ∗ ((bigSep Finset.univ fun k : Fin 11 => atPos ER (kc c k) 0 ∅ 0) ∗ payToks c)) ⊢ G' m c := by
  unfold G'
  rw [eleven c]
  iintro ⟨HR, HP, HT⟩
  iexists K
  isplitl [HR]; · iexact HR
  isplitl [HP]; · unfold poss; iexact HP
  iexact HT

omit [FloatOps F] in
/-- The invariants of all cells become shared records, and each device gets its share. -/
theorem regroup :
    (bigSep Finset.univ fun c : Dev nD => iprop((bigSep Finset.univ fun k => iprop(∃ κ : ℕ, cellInv ER (sched m) κ (kc c k)))
          ∗ (bigSep Finset.univ fun k => iprop(atPos ER (kc c k) 0 ∅ 0 ∗ reached ER (kc c k) 0)) ∗ toks c) : sProp 𝕄)
      ⊢ bigSep Finset.univ (G' m) := by
  rw [bigSep_sep', bigSep_sep', ← bigSep_univ_prod (fun ck : Dev nD × Fin 11 => iprop(∃ κ : ℕ, cellInv ER (sched m) κ (kcell ck))),
    bigSep_congr (s := Finset.univ) (fun (c : Dev nD) _ => bigSep_sep' Finset.univ (fun k : Fin 11 => (atPos ER (kc c k) 0 ∅ 0 : sProp 𝕄)) (fun k => reached ER (kc c k) 0)),
    bigSep_sep', ← bigSep_univ_prod (fun ck : Dev nD × Fin 11 => (reached ER (kcell ck) 0 : sProp 𝕄))]
  iintro ⟨HI, ⟨Hat, #HR⟩, Htok⟩
  ihave HK := (BI.bigSep_exists_pi Finset.univ (fun (ck : Dev nD × Fin 11) (κ : ℕ) => (cellInv ER (sched m) κ (kcell ck) : sProp 𝕄))) $$ HI
  icases HK with ⟨%K, #HI⟩
  ihave Htk := (toks_around (F := F)) $$ Htok
  iapply (BI.bigSep_with_persistent (R := records m K) fun c _ => deal m K c)
  isplitr
  · unfold records; isplitl; · unfold invsAll; iexact HI
    unfold marksAll; iexact HR
  · iapply (Entails.of_eq (bigSep_sep' Finset.univ (fun c : Dev nD => bigSep Finset.univ fun k : Fin 11 => (atPos ER (kc c k) 0 ∅ 0 : sProp 𝕄)) payToks).symm)
    isplitl [Hat]; · iexact Hat
    iexact Htk

omit [FloatOps F] in
/-- All devices' cells at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit at launch -/

/-- A tally on one cell, read at another. -/
theorem tally_if (g g' : GSem nD τ sig) (n : ℕ) : (tallyAt g' () n : CellTallies nD τ sig Unit) g () = if g = g' then n else 0 := by
  rw [tallyAt_apply]; exact if_congr (and_iff_left rfl) rfl rfl
/-- A tally on counter `k` of one device, read at counter `k` of another. -/
theorem kc_same (a b : Dev nD) (k : Fin 11) (n : ℕ) : (tallyAt (kc b k) () n : CellTallies nD τ sig Unit) (kc a k) () = if a = b then n else 0 := by
  rw [tally_if]; exact if_congr ⟨fun h => congrArg Prod.fst (kcell_injective h), fun h => by rw [h]⟩ rfl rfl
/-- A tally on counter `l` has nothing on another counter `k`. -/
theorem kc_other (a b : Dev nD) (k l : Fin 11) (h : k ≠ l) (n : ℕ) : (tallyAt (kc b l) () n : CellTallies nD τ sig Unit) (kc a k) () = 0 := by
  rw [tally_if]; exact if_neg fun h' => h (congrArg Prod.snd (kcell_injective h'))

/-- Of the three devices after `d`, `c` is one or none. -/
theorem hit (c d : Dev nD) (n : ℕ) :
    (if c = pd d 3 then n else 0) + (if c = pd d 2 then n else 0) + (if c = pd d 1 then n else 0) = if d = c then 0 else n := by
  by_cases h : d = c
  · subst h
    rw [if_pos rfl, if_neg (fun h => pd_ne d 3 (by decide) h.symm), if_neg (fun h => pd_ne d 2 (by decide) h.symm), if_neg (fun h => pd_ne d 1 (by decide) h.symm)]
  · rw [if_neg h]
    have : c = pd d 1 ∨ c = pd d 2 ∨ c = pd d 3 := by revert c d; decide
    rcases this with rfl | rfl | rfl
    · rw [if_neg (by revert d; decide), if_neg (by revert d; decide), if_pos rfl]; omega
    · rw [if_neg (by revert d; decide), if_pos rfl, if_neg (by revert d; decide)]; omega
    · rw [if_pos rfl, if_neg (by revert d; decide), if_neg (by revert d; decide), Nat.add_zero]

/-- Every other device owes a device's barrier one unit. -/
theorem owed_bar (d c : Dev nD) : O₀ d (kc c 0) () = if d = c then 0 else 1 := by
  unfold O₀ OS
  rw [Pi.add_apply, Finsupp.add_apply, Pi.add_apply, Finsupp.add_apply, Pi.add_apply, Finsupp.add_apply, Pi.add_apply, Finsupp.add_apply,
    Pi.add_apply, Finsupp.add_apply, kc_other c _ 0 (rk d) (by revert d; decide), kc_other c _ 0 (rk d) (by revert d; decide), kc_other c _ 0 (rk d) (by revert d; decide),
    kc_same, kc_same, kc_same]
  simp only [Nat.zero_add]
  exact hit c d 1
/-- A receive counter is not the barrier. -/
theorem rk_pos (j : Dev nD) : rk j ≠ 0 := by revert j; decide
/-- A receive counter is owed its one copy by the device that it is named for. -/
theorem owed_recv (d c j : Dev nD) (h : j ≠ c) : O₀ d (kc c (rk j)) () = if d = j then NX else 0 := by
  unfold O₀ OS
  rw [Pi.add_apply, Finsupp.add_apply, Pi.add_apply, Finsupp.add_apply, Pi.add_apply, Finsupp.add_apply, Pi.add_apply, Finsupp.add_apply,
    Pi.add_apply, Finsupp.add_apply, kc_other c _ (rk j) 0 (rk_pos j), kc_other c _ (rk j) 0 (rk_pos j), kc_other c _ (rk j) 0 (rk_pos j)]
  simp only [Nat.add_zero]
  by_cases hd : d = j
  · subst hd
    rw [kc_same, kc_same, kc_same, hit, if_neg h, if_pos rfl]
  · have hr : rk j ≠ rk d := fun h' => hd (Fin.ext (by have : j.val + 4 = d.val + 4 := congrArg Fin.val h'; omega))
    rw [kc_other _ _ _ _ hr, kc_other _ _ _ _ hr, kc_other _ _ _ _ hr, if_neg hd]

/-- Three devices are not `c`. -/
theorem sum_bar (c : Dev nD) : (∑ d : Dev nD, if d = c then 0 else 1) = 3 := by revert c; decide

/-- At launch a device's barrier is owed three units. -/
theorem launch_bar (c : Dev nD) :
    tallyOn (kc c 0) (launchCredit (Pipeline.owing O₀) 0 (kc c 0)) = (tallyAt (kc c 0) () 3 : CellTallies nD τ sig Unit) := by
  unfold tallyAt; refine congrArg _ (Finsupp.ext fun u => ?_); cases u
  rw [Pipeline.launchCredit_owing, Finsupp.single_eq_same, Finset.sum_congr rfl fun d _ => owed_bar d c, sum_bar]
/-- At launch each receive counter, but the device's own, is owed one block of `x`. -/
theorem launch_recv (c j : Dev nD) (h : j ≠ c) :
    tallyOn (kc c (rk j)) (launchCredit (Pipeline.owing O₀) 0 (kc c (rk j))) = (tallyAt (kc c (rk j)) () NX : CellTallies nD τ sig Unit) := by
  unfold tallyAt; refine congrArg _ (Finsupp.ext fun u => ?_); cases u
  rw [Pipeline.launchCredit_owing, Finsupp.single_eq_same, Finset.sum_congr rfl fun d _ => owed_recv d c j h,
    Finset.sum_ite_eq' Finset.univ j fun _ => NX, if_pos (Finset.mem_univ _)]

omit [FloatOps F] in
/-- The launch's credit contains what a device waits for. -/
theorem creds (c : Dev nD) : (Pipeline.launchCred O₀ c : sProp 𝕄) ⊢ crds c := by
  unfold Pipeline.launchCred
  refine (bigSep_subset (Finset.subset_univ (Finset.univ.map ⟨csem, csem_injective⟩))).trans ?_
  rw [bigSep_map, eleven c]
  show iprop(cred (tallyOn (kc c 0) (launchCredit (Pipeline.owing O₀) 0 (kc c 0))) ∗ _ ∗ _ ∗ _ ∗ _
      ∗ cred (tallyOn (kc c (rk (pd c 1))) (launchCredit (Pipeline.owing O₀) 0 (kc c (rk (pd c 1)))))
      ∗ cred (tallyOn (kc c (rk (pd c 2))) (launchCredit (Pipeline.owing O₀) 0 (kc c (rk (pd c 2)))))
      ∗ cred (tallyOn (kc c (rk (pd c 3))) (launchCredit (Pipeline.owing O₀) 0 (kc c (rk (pd c 3))))) ∗ _ ∗ _ ∗ _) ⊢ _
  rw [launch_bar, launch_recv c (pd c 1) (pd_ne c 1 (by decide)), launch_recv c (pd c 2) (pd_ne c 2 (by decide)), launch_recv c (pd c 3) (pd_ne c 3 (by decide))]
  unfold crds
  iintro ⟨H0, -, -, -, -, H1, H2, H3, -, -, -⟩
  isplitl [H0]; · iexact H0
  isplitl [H1]; · iexact H1
  isplitl [H2]; · iexact H2
  iexact H3

/-! ## Entering and leaving -/

/-- What the launch hands to a device is what its run starts with. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨⟨Hx, Hw⟩, Hlev, Hcr, -, HG⟩
  ihave Hc := (creds (F := F) c) $$ Hcr
  imodintro
  unfold start G'
  isplitl
  · isplitl [HG]; · iexact HG
    isplitl [Hc]; · iexact Hc
    isplitl [Hlev]; · iexact Hlev
    isplitl [Hx] <;> iassumption
  · iempintro

/-- With the scratch buffers this is what the body starts with. -/
theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratch
  iintro ⟨Hs, -, Hr⟩
  isplitl [Hs] <;> iassumption

/-- What the body ends with gives back counters, arguments and scratch buffers. -/
theorem phi1_exit (c : Dev nD) :
    (dats m ρ 0 c).Φ (Fin.last cfg0.N) ⊢ iprop((unscopedSems0 c ∗ args m c) ∗ Pipeline.ownSems0 osem c ∗ Pipeline.scopedRest cfg0.spec c) := by
  rw [show (dats m ρ 0 c).Φ (Fin.last cfg0.N) = Φ₁ m c from rfl, scopedRest0_eq]
  unfold Φ₁ scratch
  rw [zeros_eq]
  iintro ⟨HA, ⟨Hu, Ho⟩, Hr⟩
  isplitl [Hu HA]
  · isplitl [Hu] <;> iassumption
  isplitl [Ho] <;> iassumption

/-- The waits of the launch's own copies are allowed. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- What the end of the run says of device `c`: unscoped counters at zero, arguments unchanged. -/
def QY (c : Dev nD) (s : MemSt nD τ sig (Elt F)) : Prop :=
  (∀ sm : SemLoc sig, sm.isScoped .tc = false → s.sem ((c.tc : Thread nD τ), sm) = 0)
    ∧ s.mem ((c : Thread nD τ).loc main_arg0) = m ((c : Thread nD τ).loc main_arg0)
    ∧ s.mem ((c : Thread nD τ).loc main_arg1) = m ((c : Thread nD τ).loc main_arg1)

/-- The resources at the end say what the final memory holds. -/
theorem read_end (c : Dev nD) (s' : Phys nD τ sig (Elt F)) :
    iprop((unscopedSems0 c ∗ args m c) ∗ emp ∗ SI s') ⊢ (|={Set.univ}=> iprop(⌜QY m c s'.mem⌝ ∗ SI s') : sProp 𝕄) := by
  unfold args
  iintro ⟨⟨Hu, H0, H1⟩, -, HSI⟩
  icombine HSI H0 gives %h0
  icombine HSI H1 gives %h1
  imod (Pipeline.unscopedSems0_read (X := unscopedSems0 c) (c := c) fupd_intro s') $$ [Hu HSI] with ⟨%hs, HSI⟩
  · isplitl [Hu] <;> iassumption
  imodintro
  isplitr
  · ipureintro; exact ⟨hs, Buf.eq_of_forall_mem_univ h0, Buf.eq_of_forall_mem_univ h1⟩
  iexact HSI

/-! ## The run -/

def finalA (c : Dev nD) (w : Fin cfg0.W) : Buf (Elt F) ((cfg0.win w).arr.view.loc (c : Thread nD τ)) := (dats m ρ 0 c).arrAt w cfg0.N

set_option maxRecDepth 8000 in
/-- From any memory with counters at zero every execution ends, with the arguments unchanged, the result as the body left it, counters at zero. -/
theorem run_main : θ_run defs (onTc (τ := τ) (main (F := F))) (s₀ m ρ) (fun r =>
    (∀ c : Dev nD, r.2.mem ((cfg0.win (0 : Fin 1)).arr.view.loc (c : Thread nD τ)) = finalA m ρ c (0 : Fin 1)
      ∧ r.2.mem ((c : Thread nD τ).loc main_arg0) = m ((c : Thread nD τ).loc main_arg0)
      ∧ r.2.mem ((c : Thread nD τ).loc main_arg1) = m ((c : Thread nD τ).loc main_arg1))
    ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (body_obligation m ρ c).loose) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => iprop(unscopedSems0 c ∗ args m c)) (Z := fun _ => iprop(emp))
    (hX := start_intro m ρ) (hin := phi0_intro m ρ) (hout := phi1_exit m ρ)
    (QY := QY m) (hY := read_end m)
    (hQ := fun _ h hs => ⟨fun c => ⟨(h c).1 0, (h c).2.2.2.1, (h c).2.2.2.2⟩, sem_eq_zero hs fun c => (h c).2.2.1⟩)

/-- The one block of the result array is all of it: it ends as the body's output. -/
theorem finalA_out (c : Dev nD) : finalA m ρ c (0 : Fin 1) = outAt m c := by
  have h : (win0_0.blk t0_0).view.read (Elt F) (finalA m ρ c (0 : Fin 1)) = outAt m c := by
    unfold finalA
    rw [show cfg0.N = (t0_0 : Fin cfg0.N).val + 1 from rfl, (dats m ρ 0 c).arrAt_succ (0 : Fin 1) t0_0]
    rw [if_pos (flush0_0 t0_0)]
    exact View.read_write_univ _ _
  have hz : (fun a => (win0_0.index t0_0) a * main_v1.ty.shape.size a) = fun _ => 0 :=
    funext fun a => by fin_cases a <;> decide
  have hr := fun f => Memref.read_access_unit_zero (Elt F) main_v1 hz (fun a => by fin_cases a <;> decide) f
  exact (hr _).symm.trans h

end Cert.KernelIdeal.Run

end
-- ==== Proof.Frames.lean ====
/-
The frames: each program ends without a fault, its arguments as they were and every counter at zero.
-/
module

public import proofs.«01_k».proof.Defs
public import proofs.«01_k».proof.Proof.Launch
public import proofs.«01_k».proof.Proof.Gen.Kernel
public import proofs.«01_k».proof.Proof.Gen.ReferenceIdeal.Run
public import proofs.«01_k».proof.Proof.Gen.Pre_small_KernelIdeal
public import proofs.«01_k».proof.Proof.Gen.Pre_small_ReferenceIdeal

@[expose] public section

noncomputable section

namespace Cert.Proof

open Idealize.ShloMosaic Idealize.SL.Sem

/-- The two programs call the same body: each names its one label's body by cases of its own. -/
theorem bodies_eq : Cert.KernelIdeal.defs₀ (F := Bits) = Cert.Kernel.defs₀ := by
  unfold Cert.Kernel.defs₀ Cert.KernelIdeal.defs₀
  refine congrArg Defs.onTc (funext fun l => funext fun a => ?_)
  match l, a with
  | ⟨0, _⟩, (t, s) => rfl
  | ⟨n + 1, h⟩, _ => exact absurd h (by omega)

/-- So they have the same table of bodies. -/
theorem defs_eq : Cert.KernelIdeal.defs (F := Bits) = Cert.Kernel.defs :=
  congrArg (Pipeline.defs (Cert.KernelIdeal.pcfgs (F := Bits))) bodies_eq

/-- The kernel on machine words: its text is the ideal program's, whose run is proved for every kind of float. -/
theorem frame_kernel : Cert.quiescent_Kernel := by
  intro m ρ _
  have h := Cert.KernelIdeal.Run.run_main (F := Bits) m ρ
  rw [defs_eq] at h
  exact (θ_run Cert.Kernel.defs _ _).mono (fun _ h => ⟨fun c => (h.1 c).2, h.2⟩) h

/-- The kernel on the extended reals. -/
theorem frame_kernelIdeal : Cert.quiescent_KernelIdeal := fun m ρ _ =>
  (θ_run Cert.KernelIdeal.defs _ _).mono (fun _ h => ⟨fun c => (h.1 c).2, h.2⟩) (Cert.KernelIdeal.Run.run_main (F := Ideal) m ρ)

/-- The reference on the extended reals: none of its operations writes an argument, and it has no semaphore. -/
theorem frame_referenceIdeal : Cert.quiescent_ReferenceIdeal := fun m ρ _ =>
  (θ_run Cert.ReferenceIdeal.defs _ _).mono
    (fun r h => ⟨fun c => (h c).2, sem_eq_zero_of_no_sems (by decide) r.2⟩) (Cert.ReferenceIdeal.Value.run (F := Ideal) m ρ)

end Cert.Proof

end
-- ==== Proof.Algebra.lean ====
/-
The mathematics, away from any program: a product of 4096 terms in four blocks of 1024, and the SiLU written with and
without the clip of its exponent.
-/
module

public import Idealize.ShloMosaic.PureOps.Ideal
public import Idealize.ShloMosaic.Lib.IdealHost

@[expose] public section

noncomputable section

namespace Cert.Fused

open Idealize.ShloMosaic Idealize.ShloMosaic.ValueIdx

open scoped BigOperators

/-! ## The contraction, in four blocks -/

/-- Position `l` of block `j` of the 4096 positions. -/
def pos (j : Fin 4) (l : Fin 1024) : Fin 4096 := ⟨1024 * j.val + l.val, by omega⟩

variable (X : FVec Ideal ⟨2, ![4096, 4096]⟩ .f32) (W : FVec Ideal ⟨2, ![4096, 2048]⟩ .f32)

/-- The terms of block `j` of the element `(r, n)` of the product, summed. -/
def part (j : Fin 4) (r : Fin 4096) (n : Fin 2048) : EReal :=
  ∑ l : Fin 1024, (X (ix2 r (pos j l)) : EReal) * (W (ix2 (pos j l) n) : EReal)

/-- The element `(r, n)` of the product. -/
def whole (r : Fin 4096) (n : Fin 2048) : EReal := ∑ k : Fin 4096, (X (ix2 r k) : EReal) * (W (ix2 k n) : EReal)

/-- A pair of a block and a position in it is a position. -/
def posEquiv : Fin 4 × Fin 1024 ≃ Fin 4096 where
  toFun p := pos p.1 p.2
  invFun k := (⟨k.val / 1024, by omega⟩, ⟨k.val % 1024, by omega⟩)
  left_inv p := by
    obtain ⟨j, l⟩ := p
    refine Prod.ext (Fin.ext ?_) (Fin.ext ?_)
    · show (1024 * j.val + l.val) / 1024 = j.val
      omega
    · show (1024 * j.val + l.val) % 1024 = l.val
      omega
  right_inv k := Fin.ext (by show 1024 * (k.val / 1024) + k.val % 1024 = k.val; omega)

/-- The four blocks together are the product: the sum of extended reals may be taken in any grouping. -/
theorem sum_part (r : Fin 4096) (n : Fin 2048) : ∑ j : Fin 4, part X W j r n = whole X W r n := by
  unfold whole
  rw [← Equiv.sum_comp posEquiv, Fintype.sum_prod_type]
  rfl

/-- The four blocks in the order in which device `c` adds them: its own, then those of the devices 1, 3 and 2 steps on. -/
theorem sum_ring (f : Fin 4 → EReal) (c p q s : Fin 4) (hp : p.val = (c.val + 1) % 4) (hq : q.val = (c.val + 3) % 4)
    (hs : s.val = (c.val + 2) % 4) : f c + f p + f q + f s = ∑ j : Fin 4, f j := by
  rw [Fin.sum_univ_four]
  obtain rfl : p = ⟨(c.val + 1) % 4, Nat.mod_lt _ (by decide)⟩ := Fin.ext hp
  obtain rfl : q = ⟨(c.val + 3) % 4, Nat.mod_lt _ (by decide)⟩ := Fin.ext hq
  obtain rfl : s = ⟨(c.val + 2) % 4, Nat.mod_lt _ (by decide)⟩ := Fin.ext hs
  fin_cases c
  · show f 0 + f 1 + f 3 + f 2 = _
    abel
  · show f 1 + f 2 + f 0 + f 3 = _
    abel
  · show f 2 + f 3 + f 1 + f 0 = _
    abel
  · show f 3 + f 0 + f 2 + f 1 = _
    abel

/-! ## Bounds -/

/-- The word that stands for 15 is 15; for 60, 60; for -60, -60. -/
theorem ofBits_15 : Ideal.ofBits .f32 0x41700000#32 = ((15 : ℝ) : EReal) := by
  simp [Ideal.ofBits, Ideal.ieee, -EReal.coe_mul]; norm_num
/-- The word of 60. -/
theorem ofBits_60 : Ideal.ofBits .f32 0x42700000#32 = ((60 : ℝ) : EReal) := by
  simp [Ideal.ofBits, Ideal.ieee, -EReal.coe_mul]; norm_num
/-- The word of -60. -/
theorem ofBits_neg_60 : Ideal.ofBits .f32 0xC2700000#32 = ((-60 : ℝ) : EReal) := by
  simp [Ideal.ofBits, Ideal.ieee, -EReal.coe_mul, -EReal.coe_neg]; norm_num

/-- An absolute value of at most 15 bounds the number on both sides. -/
theorem bounds_of_abs (x : EReal) (h : max x (-x) ≤ ((15 : ℝ) : EReal)) :
    ((-15 : ℝ) : EReal) ≤ x ∧ x ≤ ((15 : ℝ) : EReal) := by
  refine ⟨?_, (le_max_left _ _).trans h⟩
  have := EReal.neg_le_neg_iff.mpr ((le_max_right x (-x)).trans h)
  rwa [neg_neg, ← EReal.coe_neg] at this

/-- Four numbers of at most 15 in absolute value sum to at most 60 in absolute value. -/
theorem sum_bounds (f : Fin 4 → EReal) (h : ∀ j, ((-15 : ℝ) : EReal) ≤ f j ∧ f j ≤ ((15 : ℝ) : EReal)) :
    ((-60 : ℝ) : EReal) ≤ ∑ j : Fin 4, f j ∧ ∑ j : Fin 4, f j ≤ ((60 : ℝ) : EReal) := by
  rw [Fin.sum_univ_four]
  constructor
  · have e : ((-60 : ℝ) : EReal) = ((-15 : ℝ) : EReal) + ((-15 : ℝ) : EReal) + ((-15 : ℝ) : EReal) + ((-15 : ℝ) : EReal) := by
      rw [← EReal.coe_add, ← EReal.coe_add, ← EReal.coe_add]; norm_num
    rw [e]
    exact add_le_add (add_le_add (add_le_add (h 0).1 (h 1).1) (h 2).1) (h 3).1
  · have e : ((60 : ℝ) : EReal) = ((15 : ℝ) : EReal) + ((15 : ℝ) : EReal) + ((15 : ℝ) : EReal) + ((15 : ℝ) : EReal) := by
      rw [← EReal.coe_add, ← EReal.coe_add, ← EReal.coe_add]; norm_num
    rw [e]
    exact add_le_add (add_le_add (add_le_add (h 0).2 (h 1).2) (h 2).2) (h 3).2

/-! ## The SiLU -/

/-- An exponential is not negative. -/
theorem exp_nonneg (x : EReal) : 0 ≤ Ideal.exp x := by
  induction x using EReal.rec with
  | bot => exact le_of_eq Ideal.exp_bot.symm
  | top => rw [Ideal.exp_top]; exact le_top
  | coe r => rw [Ideal.exp_coe]; exact EReal.coe_nonneg.mpr (Real.exp_pos r).le

/-- So one plus it is not zero. -/
theorem one_add_exp_ne_zero (x : EReal) : 1 + Ideal.exp x ≠ 0 := by
  intro e
  have h : (1 : EReal) ≤ 1 + Ideal.exp x := le_add_of_nonneg_right (exp_nonneg x)
  rw [e] at h
  exact absurd h (by simp)

/-- Between -60 and 60 the product with the logistic function is the quotient by one plus the exponential of the
    clipped and negated number. -/
theorem silu_eq (y : EReal) (h : ((-60 : ℝ) : EReal) ≤ y ∧ y ≤ ((60 : ℝ) : EReal)) :
    y * Ideal.logistic y
      = Ideal.div y (1 + Ideal.exp (-(min ((60 : ℝ) : EReal) (max ((-60 : ℝ) : EReal) y)))) := by
  rw [max_eq_right h.1, min_eq_right h.2]
  exact Ideal.mul_one_div (one_add_exp_ne_zero (-y))

end Cert.Fused

end
-- ==== Proof.Value.lean ====
/-
What device `c` ends with is block `c` of what the reference computes.

The four blocks of the contraction that device `c` adds up are `part` of the whole arrays (`acc_eq`), so its sum is the
whole product (`sum_part`); the precondition bounds each block by 15 on the device that holds its columns of `x`
(`part_bounds`), hence the product by 60, where the reference's clip does nothing (`silu_eq`).
-/
module

public import proofs.«01_k».proof.Proof.Frames
public import proofs.«01_k».proof.Proof.Algebra
public import Idealize.ShloMosaic.Lib.MatmulPlain
public import Idealize.ShloMosaic.Lib.StackMember
public import Idealize.ShloMosaic.Lib.ValueIdx

@[expose] public section

noncomputable section

namespace Cert.Fused

open Idealize.ShloMosaic Idealize.ShloMosaic.ValueIdx Idealize.ShloMosaic.TcCoe Idealize.SL.Sem
open Cert.KernelIdeal Cert.KernelIdeal.Gen Cert.KernelIdeal.Run

open scoped BigOperators

/-! ## The kernel's blocks -/

/-- One block product at an index. -/
theorem mm_at (A : FVec Ideal S1024x1024 .f32) (B : FVec Ideal S1024x2048 .f32) (i : Fin 1024) (n : Fin 2048) :
    (mm (F := Ideal) A B (ix2 i n) : EReal) = ∑ l : Fin 1024, (A (ix2 i l) : EReal) * (B (ix2 l n) : EReal) := by
  have h := Ideal.matmul_plain_apply none A B (constant (F := Ideal) S1024x2048 .f32 0x00000000#32) i n
  have z : (constant (F := Ideal) S1024x2048 .f32 0x00000000#32 (ix2 i n) : EReal) = 0 := by
    show Ideal.ofBits .f32 0x00000000#32 = 0
    simp [Ideal.ofBits, Ideal.ieee]
  rw [z, zero_add] at h
  exact h

/-- A carried sum at an index. -/
theorem plus_at (A B : FVec Ideal S1024x2048 .f32) (j : S1024x2048.Idx) :
    (plus (F := Ideal) A B j : EReal) = (A j : EReal) + (B j : EReal) := by
  unfold plus
  rw [shapeCast_self]
  rfl

section Blocks
variable (m : (ℓ : Loc nD τ sig) → Buf (Elt Ideal) ℓ)
variable (X : FVec Ideal ⟨2, ![4096, 4096]⟩ .f32) (W : FVec Ideal ⟨2, ![4096, 2048]⟩ .f32)

/-- Each device holds its column block of `X`, and `W`. -/
def Holds : Prop := ∀ c : Dev nD,
  m ((c : Thread nD τ).loc main_arg0) = Layout.block ⟨2, ![4096, 1024]⟩ ⟨2, ![4096, 4096]⟩ 1 4 c X
    ∧ m ((c : Thread nD τ).loc main_arg1) = W

variable {m X W} (h : Holds m X W)
include h

/-- An element of device `j`'s columns. -/
theorem x_at (j : Dev nD) (r : Fin 4096) (l : Fin 1024) :
    m ((j : Thread nD τ).loc main_arg0) (ix2 r l) = X (ix2 r (pos j l)) := by
  rw [(h j).1]
  refine congrArg X (funext fun a => Fin.ext ?_)
  match a with
  | ⟨0, _⟩ => rfl
  | ⟨1, _⟩ => show j.val * 1024 + l.val = 1024 * j.val + l.val; omega

/-- Row block `k` of device `j`'s columns. -/
theorem xrow_at (j k : Dev nD) (i l : Fin 1024) : xrow (F := Ideal) m j k (ix2 i l) = X (ix2 (pos k i) (pos j l)) := by
  rw [← x_at h j]
  unfold xrow xbuf
  rw [View.read_apply]
  refine congrArg (m ((j : Thread nD τ).loc main_arg0)) (funext fun a => Fin.ext ?_)
  match a with
  | ⟨0, _⟩ => show 1024 * k.val + 1 * i.val = 1024 * k.val + i.val; omega
  | ⟨1, _⟩ => show 0 + 1 * l.val = l.val; omega

/-- Row block `k` of `W`. -/
theorem wrow_at (c k : Dev nD) (l : Fin 1024) (n : Fin 2048) : wrow (F := Ideal) m c k (ix2 l n) = W (ix2 (pos k l) n) := by
  rw [← (h c).2]
  unfold wrow wbuf
  rw [View.read_apply]
  refine congrArg (m ((c : Thread nD τ).loc main_arg1)) (funext fun a => Fin.ext ?_)
  match a with
  | ⟨0, _⟩ => show 1024 * k.val + 1 * l.val = 1024 * k.val + l.val; omega
  | ⟨1, _⟩ => show 0 + 1 * n.val = n.val; omega

/-- The product of what device `j` sent to `c` and of `W`'s row block `j` is block `j` of the contraction. -/
theorem block_at (c j : Dev nD) (i : Fin 1024) (n : Fin 2048) :
    (mm (F := Ideal) (xrow m j c) (wrow m c j) (ix2 i n) : EReal) = part X W j (pos c i) n := by
  rw [mm_at]
  unfold part
  refine Finset.sum_congr rfl fun l _ => ?_
  rw [xrow_at h, wrow_at h]

/-- The sum that device `c` carries is the element of the whole product. -/
theorem acc_eq (c : Dev nD) (i : Fin 1024) (n : Fin 2048) : (acc3 (F := Ideal) m c (ix2 i n) : EReal) = ∑ j : Fin 4, part X W j (pos c i) n := by
  unfold acc3 acc2 acc1 acc0
  rw [plus_at, plus_at, plus_at, pd_zero, block_at h, block_at h, block_at h, block_at h]
  exact sum_ring (fun j => part X W j (pos c i) n) c _ _ _ rfl rfl rfl

end Blocks

/-! ## The precondition -/

/-- A comparison's bit that is one says that the comparison holds. -/
theorem of_bit {p : Prop} {i : Decidable p} (h : BitVec.ofBool (@decide p i) = 1#1) : p := by
  by_contra hn
  rw [decide_eq_false hn] at h
  exact absurd h (by decide)

/-- One of the predicate's comparisons at an index: the block's product is between -15 and 15. -/
theorem bounded (x : FVec Ideal Cert.Pre_small_KernelIdeal.S4096x1024 .f32) (v : FVec Ideal Cert.Pre_small_KernelIdeal.S1024x2048 .f32)
    (h : cmpf .ole (Host.absf (Host.dotGeneral Cert.Pre_small_KernelIdeal.dot_S4096x1024_S1024x2048_S4096x2048_1_0_0_1_n_n none x v))
        (broadcastInDim Cert.Pre_small_KernelIdeal.S4096x2048 ![] Cert.Pre_small_KernelIdeal.Facts.bcast_S_S4096x2048
          (constant (F := Ideal) Cert.Pre_small_KernelIdeal.S_ .f32 0x41700000#32)) = fun _ => 1#1)
    (r : Fin 4096) (n : Fin 2048) :
    ((-15 : ℝ) : EReal) ≤ ∑ l : Fin 1024, (x (ix2 r l) : EReal) * (v (ix2 l n) : EReal)
      ∧ ∑ l : Fin 1024, (x (ix2 r l) : EReal) * (v (ix2 l n) : EReal) ≤ ((15 : ℝ) : EReal) := by
  have hd : (Host.dotGeneral Cert.Pre_small_KernelIdeal.dot_S4096x1024_S1024x2048_S4096x2048_1_0_0_1_n_n none x v (ix2 r n) : EReal)
      = ∑ l : Fin 1024, (x (ix2 r l) : EReal) * (v (ix2 l n) : EReal) := StackMember.dotGeneral_plain_apply none x v r n
  have e := congrFun h (ix2 r n)
  rw [cmpf_apply, broadcastInDim_scalar_apply, constant_apply, ofBits_15] at e
  apply bounds_of_abs
  rw [← hd]
  exact of_bit e

section Bounds
variable {m : (ℓ : Loc nD τ sig) → Buf (Elt Ideal) ℓ}
variable {X : FVec Ideal ⟨2, ![4096, 4096]⟩ .f32} {W : FVec Ideal ⟨2, ![4096, 2048]⟩ .f32}
variable (h : Holds m X W) (hp : Cert.Pre_KernelIdeal_small_KernelIdeal m)
include h hp

/-- Every block of the contraction is between -15 and 15. -/
theorem part_bounds (j : Fin 4) (r : Fin 4096) (n : Fin 2048) :
    ((-15 : ℝ) : EReal) ≤ part X W j r n ∧ part X W j r n ≤ ((15 : ℝ) : EReal) := by
  have key : ∀ (u : FVec Ideal Cert.Pre_small_KernelIdeal.S4096x1024 .f32) (v : FVec Ideal Cert.Pre_small_KernelIdeal.S1024x2048 .f32),
      (∀ r l, u (ix2 r l) = X (ix2 r (pos j l))) → (∀ l n, v (ix2 l n) = W (ix2 (pos j l) n)) →
      (cmpf .ole (Host.absf (Host.dotGeneral Cert.Pre_small_KernelIdeal.dot_S4096x1024_S1024x2048_S4096x2048_1_0_0_1_n_n none u v))
        (broadcastInDim Cert.Pre_small_KernelIdeal.S4096x2048 ![] Cert.Pre_small_KernelIdeal.Facts.bcast_S_S4096x2048
          (constant (F := Ideal) Cert.Pre_small_KernelIdeal.S_ .f32 0x41700000#32)) = fun _ => 1#1) →
      ((-15 : ℝ) : EReal) ≤ part X W j r n ∧ part X W j r n ≤ ((15 : ℝ) : EReal) := fun u v hu hv hb => by
    have e : part X W j r n = ∑ l : Fin 1024, (u (ix2 r l) : EReal) * (v (ix2 l n) : EReal) := by
      unfold part
      exact Finset.sum_congr rfl fun l _ => by rw [hu, hv]
    rw [e]
    exact bounded u v hb r n
  have hw := (h j).2
  have hx := x_at h j
  obtain ⟨h0, h1, h2, h3⟩ := hp j
  have sliced : ∀ (o : ℕ) (hs : Cert.Pre_small_KernelIdeal.S4096x2048.Slices ![o, 0] Cert.Pre_small_KernelIdeal.S1024x2048), o = 1024 * j.val →
      ∀ (l : Fin 1024) (n : Fin 2048), extractStridedSlice Cert.Pre_small_KernelIdeal.S1024x2048 ![o, 0]
        (m (((j : Dev nD) : Thread nD τ).loc main_arg1)) hs (ix2 l n) = W (ix2 (pos j l) n) := fun o hs ho l n => by
    subst ho
    rw [hw]
    refine congrArg W (funext fun a => Fin.ext ?_)
    match a with
    | ⟨0, _⟩ => rfl
    | ⟨1, _⟩ => show 0 + n.val = n.val; omega
  match j, key, sliced, hx, h0, h1, h2, h3 with
  | ⟨0, _⟩, key, sliced, hx, h0, _, _, _ => exact key _ _ hx (sliced 0 _ rfl) h0
  | ⟨1, _⟩, key, sliced, hx, _, h1, _, _ => exact key _ _ hx (sliced 1024 _ rfl) h1
  | ⟨2, _⟩, key, sliced, hx, _, _, h2, _ => exact key _ _ hx (sliced 2048 _ rfl) h2
  | ⟨3, _⟩, key, sliced, hx, _, _, _, h3 => exact key _ _ hx (sliced 3072 _ rfl) h3

end Bounds

/-! ## The reference -/

/-- What the reference computes of `X` and `W`. -/
def refOut (X : FVec Ideal ⟨2, ![4096, 4096]⟩ .f32) (W : FVec Ideal ⟨2, ![4096, 2048]⟩ .f32) : FVec Ideal ⟨2, ![4096, 2048]⟩ .f32 :=
  Host.divf (Host.dotGeneral Cert.ReferenceIdeal.dot_S4096x4096_S4096x2048_S4096x2048_1_0_0_1_n_n none X W)
    (addf (broadcastInDim Cert.ReferenceIdeal.S4096x2048 ![] Cert.ReferenceIdeal.Facts₀.bcast_S_S4096x2048 (constant Cert.ReferenceIdeal.S_ .f32 0x3F800000#32))
      (Host.exp (Host.negf (minimumf
        (broadcastInDim Cert.ReferenceIdeal.S4096x2048 ![] Cert.ReferenceIdeal.Facts₀.bcast_S_S4096x2048 (id (constant Cert.ReferenceIdeal.S_ .f32 0x42700000#32)))
        (maximumf
          (broadcastInDim Cert.ReferenceIdeal.S4096x2048 ![] Cert.ReferenceIdeal.Facts₀.bcast_S_S4096x2048 (id (constant Cert.ReferenceIdeal.S_ .f32 0xC2700000#32)))
          (Host.dotGeneral Cert.ReferenceIdeal.dot_S4096x4096_S4096x2048_S4096x2048_1_0_0_1_n_n none X W))))))

/-- The reference at an index: the product over one plus the exponential of its clipped negation. -/
theorem refOut_at (X : FVec Ideal ⟨2, ![4096, 4096]⟩ .f32) (W : FVec Ideal ⟨2, ![4096, 2048]⟩ .f32) (r : Fin 4096) (n : Fin 2048) :
    (refOut X W (ix2 r n) : EReal) = Ideal.div (whole X W r n)
      (1 + Ideal.exp (-(min ((60 : ℝ) : EReal) (max ((-60 : ℝ) : EReal) (whole X W r n))))) := by
  have hd : (Host.dotGeneral Cert.ReferenceIdeal.dot_S4096x4096_S4096x2048_S4096x2048_1_0_0_1_n_n none X W (ix2 r n) : EReal)
      = whole X W r n := StackMember.dotGeneral_plain_apply none X W r n
  rw [← hd, ← ofBits_60, ← ofBits_neg_60, ← Ideal.ofBits_one_f32]
  rfl

/-- Device `c`'s result is block `c` of the reference's. -/
theorem out_eq {m : (ℓ : Loc nD τ sig) → Buf (Elt Ideal) ℓ}
    {X : FVec Ideal ⟨2, ![4096, 4096]⟩ .f32} {W : FVec Ideal ⟨2, ![4096, 2048]⟩ .f32}
    (h : Holds m X W) (hp : Cert.Pre_KernelIdeal_small_KernelIdeal m) (c : Dev nD) :
    outAt (F := Ideal) m c = Layout.block ⟨2, ![1024, 2048]⟩ ⟨2, ![4096, 2048]⟩ 0 4 c (refOut X W) := by
  funext j
  obtain ⟨i, n, rfl⟩ : ∃ (i : Fin 1024) (n : Fin 2048), j = ix2 i n := ⟨j 0, j 1, eq_ix2 j⟩
  have hb : Layout.block ⟨2, ![1024, 2048]⟩ ⟨2, ![4096, 2048]⟩ 0 4 c (refOut X W) (by decide) (ix2 i n) = refOut X W (ix2 (pos c i) n) := by
    refine congrArg (refOut X W) (funext fun a => Fin.ext ?_)
    match a with
    | ⟨0, _⟩ => show c.val * 1024 + i.val = 1024 * c.val + i.val; omega
    | ⟨1, _⟩ => rfl
  rw [hb, refOut_at, ← sum_part, ← silu_eq _ (sum_bounds _ fun j => part_bounds h hp j _ _), ← acc_eq h]
  unfold outAt k0_pay1
  simp only [shapeCast_self]
  rfl

end Cert.Fused

namespace Cert.Proof

open Idealize.ShloMosaic Idealize.ShloMosaic.TcCoe Idealize.SL.Sem

/-- Kernel and reference compute one function of the whole arrays, wherever the precondition holds. -/
theorem value : Cert.algebraic_KernelIdeal_ReferenceIdeal_pre_small_KernelIdeal := by
  intro m ρ m' ρ' hp hagree
  refine ⟨Cert.Fused.refOut (m' (((0 : Dev Cert.ReferenceIdeal.nD).tc : Thread _ Cert.ReferenceIdeal.τ).loc Cert.ReferenceIdeal.main_arg0))
    (m' (((0 : Dev Cert.ReferenceIdeal.nD).tc : Thread _ Cert.ReferenceIdeal.τ).loc Cert.ReferenceIdeal.main_arg1)), ?_, ?_⟩
  · exact (θ_run Cert.KernelIdeal.defs _ _).mono
      (fun _ h c => ⟨((h.1 c).1.trans (Cert.KernelIdeal.Run.finalA_out m ρ c)).trans (Cert.Fused.out_eq hagree hp c), (h.1 c).2⟩)
      (Cert.KernelIdeal.Run.run_main (F := Ideal) m ρ)
  · exact (θ_run Cert.ReferenceIdeal.defs _ _).mono (fun _ h => h 0) (Cert.ReferenceIdeal.Value.run (F := Ideal) m' ρ')

end Cert.Proof

end
-- ==== Proof.lean ====
/-
The proof of `Cert.Claim`: the three frames and the equation of kernel and reference, from the modules under Proof/.
Protocol says who hands what to whom; Steps, Parts and Core run one device's body; Pieces and Launch run the four
together; Frames, Algebra and Value draw the claims from that run.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_small_KernelIdeal
public import proofs.«01_k».proof.Proof.Gen.Pre_small_ReferenceIdeal
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem

/-- Every claim: what the programs' texts need, the frames (plain, and under the precondition, which only adds a
hypothesis), the unchanged text of the idealized kernel, and the value. -/
theorem claim : Cert.Claim :=
  ⟨Cert.Kernel.Gen.facts, Cert.KernelIdeal.Gen.facts, Cert.ReferenceIdeal.Gen.facts,
    Cert.Pre_small_KernelIdeal.Gen.facts, Cert.Pre_small_ReferenceIdeal.Gen.facts,
    frame_kernel, frame_kernelIdeal, fun m ρ _ => frame_kernelIdeal m ρ trivial,
    frame_referenceIdeal, fun m ρ _ => frame_referenceIdeal m ρ trivial, trivial, value⟩

end Cert.Proof

end
